-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11)
      ∧ r.2.mem ((c.tc : Thread Cert.Ffn.nD Cert.Ffn.τ).loc Cert.Ffn.main_arg12) = m ((c.tc : Thread Cert.Ffn.nD Cert.Ffn.τ).loc Cert.Ffn.main_arg12)
      ∧ r.2.mem ((c.tc : Thread Cert.Ffn.nD Cert.Ffn.τ).loc Cert.Ffn.main_arg13) = m ((c.tc : Thread Cert.Ffn.nD Cert.Ffn.τ).loc Cert.Ffn.main_arg13)
      ∧ r.2.mem ((c.tc : Thread Cert.Ffn.nD Cert.Ffn.τ).loc Cert.Ffn.main_arg14) = m ((c.tc : Thread Cert.Ffn.nD Cert.Ffn.τ).loc Cert.Ffn.main_arg14)
      ∧ r.2.mem ((c.tc : Thread Cert.Ffn.nD Cert.Ffn.τ).loc Cert.Ffn.main_arg15) = m ((c.tc : Thread Cert.Ffn.nD Cert.Ffn.τ).loc Cert.Ffn.main_arg15)
      ∧ r.2.mem ((c.tc : Thread Cert.Ffn.nD Cert.Ffn.τ).loc Cert.Ffn.main_arg16) = m ((c.tc : Thread Cert.Ffn.nD Cert.Ffn.τ).loc Cert.Ffn.main_arg16)
      ∧ r.2.mem ((c.tc : Thread Cert.Ffn.nD Cert.Ffn.τ).loc Cert.Ffn.main_arg17) = m ((c.tc : Thread Cert.Ffn.nD Cert.Ffn.τ).loc Cert.Ffn.main_arg17))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
      ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12)
      ∧ r.2.mem ((c.tc : Thread Cert.FfnIdeal.nD Cert.FfnIdeal.τ).loc Cert.FfnIdeal.main_arg13) = m ((c.tc : Thread Cert.FfnIdeal.nD Cert.FfnIdeal.τ).loc Cert.FfnIdeal.main_arg13)
      ∧ r.2.mem ((c.tc : Thread Cert.FfnIdeal.nD Cert.FfnIdeal.τ).loc Cert.FfnIdeal.main_arg14) = m ((c.tc : Thread Cert.FfnIdeal.nD Cert.FfnIdeal.τ).loc Cert.FfnIdeal.main_arg14)
      ∧ r.2.mem ((c.tc : Thread Cert.FfnIdeal.nD Cert.FfnIdeal.τ).loc Cert.FfnIdeal.main_arg15) = m ((c.tc : Thread Cert.FfnIdeal.nD Cert.FfnIdeal.τ).loc Cert.FfnIdeal.main_arg15)
      ∧ r.2.mem ((c.tc : Thread Cert.FfnIdeal.nD Cert.FfnIdeal.τ).loc Cert.FfnIdeal.main_arg16) = m ((c.tc : Thread Cert.FfnIdeal.nD Cert.FfnIdeal.τ).loc Cert.FfnIdeal.main_arg16)
      ∧ r.2.mem ((c.tc : Thread Cert.FfnIdeal.nD Cert.FfnIdeal.τ).loc Cert.FfnIdeal.main_arg17) = m ((c.tc : Thread Cert.FfnIdeal.nD Cert.FfnIdeal.τ).loc Cert.FfnIdeal.main_arg17))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11)
      ∧ r.2.mem ((c.tc : Thread Cert.FfnRefIdeal.nD Cert.FfnRefIdeal.τ).loc Cert.FfnRefIdeal.main_arg12) = m ((c.tc : Thread Cert.FfnRefIdeal.nD Cert.FfnRefIdeal.τ).loc Cert.FfnRefIdeal.main_arg12)
      ∧ r.2.mem ((c.tc : Thread Cert.FfnRefIdeal.nD Cert.FfnRefIdeal.τ).loc Cert.FfnRefIdeal.main_arg13) = m ((c.tc : Thread Cert.FfnRefIdeal.nD Cert.FfnRefIdeal.τ).loc Cert.FfnRefIdeal.main_arg13)
      ∧ r.2.mem ((c.tc : Thread Cert.FfnRefIdeal.nD Cert.FfnRefIdeal.τ).loc Cert.FfnRefIdeal.main_arg14) = m ((c.tc : Thread Cert.FfnRefIdeal.nD Cert.FfnRefIdeal.τ).loc Cert.FfnRefIdeal.main_arg14)
      ∧ r.2.mem ((c.tc : Thread Cert.FfnRefIdeal.nD Cert.FfnRefIdeal.τ).loc Cert.FfnRefIdeal.main_arg15) = m ((c.tc : Thread Cert.FfnRefIdeal.nD Cert.FfnRefIdeal.τ).loc Cert.FfnRefIdeal.main_arg15)
      ∧ r.2.mem ((c.tc : Thread Cert.FfnRefIdeal.nD Cert.FfnRefIdeal.τ).loc Cert.FfnRefIdeal.main_arg16) = m ((c.tc : Thread Cert.FfnRefIdeal.nD Cert.FfnRefIdeal.τ).loc Cert.FfnRefIdeal.main_arg16)
      ∧ r.2.mem ((c.tc : Thread Cert.FfnRefIdeal.nD Cert.FfnRefIdeal.τ).loc Cert.FfnRefIdeal.main_arg17) = m ((c.tc : Thread Cert.FfnRefIdeal.nD Cert.FfnRefIdeal.τ).loc Cert.FfnRefIdeal.main_arg17))
      ∧ r.2.sem = fun _ => 0)

def preserves_Ffn_FfnIdeal : Prop :=
  IdealRules.named_const.Statement Cert.FfnIdeal.κ "inv_127" .f32 0x3C010204#32 ((1 / 127 : ℝ) : EReal)

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)
      ∧ m' ((c.tc : Thread Cert.FfnRefIdeal.nD Cert.FfnRefIdeal.τ).loc Cert.FfnRefIdeal.main_arg11) = m ((c.tc : Thread Cert.FfnIdeal.nD Cert.FfnIdeal.τ).loc Cert.FfnIdeal.main_arg11)
      ∧ m' ((c.tc : Thread Cert.FfnRefIdeal.nD Cert.FfnRefIdeal.τ).loc Cert.FfnRefIdeal.main_arg12) = m ((c.tc : Thread Cert.FfnIdeal.nD Cert.FfnIdeal.τ).loc Cert.FfnIdeal.main_arg12)
      ∧ m' ((c.tc : Thread Cert.FfnRefIdeal.nD Cert.FfnRefIdeal.τ).loc Cert.FfnRefIdeal.main_arg13) = m ((c.tc : Thread Cert.FfnIdeal.nD Cert.FfnIdeal.τ).loc Cert.FfnIdeal.main_arg13)
      ∧ m' ((c.tc : Thread Cert.FfnRefIdeal.nD Cert.FfnRefIdeal.τ).loc Cert.FfnRefIdeal.main_arg14) = m ((c.tc : Thread Cert.FfnIdeal.nD Cert.FfnIdeal.τ).loc Cert.FfnIdeal.main_arg14)
      ∧ m' ((c.tc : Thread Cert.FfnRefIdeal.nD Cert.FfnRefIdeal.τ).loc Cert.FfnRefIdeal.main_arg15) = m ((c.tc : Thread Cert.FfnIdeal.nD Cert.FfnIdeal.τ).loc Cert.FfnIdeal.main_arg15)
      ∧ m' ((c.tc : Thread Cert.FfnRefIdeal.nD Cert.FfnRefIdeal.τ).loc Cert.FfnRefIdeal.main_arg16) = m ((c.tc : Thread Cert.FfnIdeal.nD Cert.FfnIdeal.τ).loc Cert.FfnIdeal.main_arg16)
      ∧ m' ((c.tc : Thread Cert.FfnRefIdeal.nD Cert.FfnRefIdeal.τ).loc Cert.FfnRefIdeal.main_arg17) = m ((c.tc : Thread Cert.FfnIdeal.nD Cert.FfnIdeal.τ).loc Cert.FfnIdeal.main_arg17)) →
    ∃ (v0 : (c : Dev Cert.FfnIdeal.nD) → Buf (Elt Ideal) ((c.tc : Thread Cert.FfnIdeal.nD Cert.FfnIdeal.τ).loc Cert.FfnIdeal.main_v15_0)) (v1 : (c : Dev Cert.FfnIdeal.nD) → Buf (Elt Ideal) ((c.tc : Thread Cert.FfnIdeal.nD Cert.FfnIdeal.τ).loc Cert.FfnIdeal.main_v15_1)) (v2 : (c : Dev Cert.FfnIdeal.nD) → Buf (Elt Ideal) ((c.tc : Thread Cert.FfnIdeal.nD Cert.FfnIdeal.τ).loc Cert.FfnIdeal.main_v15_2)) (v3 : (c : Dev Cert.FfnIdeal.nD) → Buf (Elt Ideal) ((c.tc : Thread Cert.FfnIdeal.nD Cert.FfnIdeal.τ).loc Cert.FfnIdeal.main_v15_3)) (v4 : (c : Dev Cert.FfnIdeal.nD) → Buf (Elt Ideal) ((c.tc : Thread Cert.FfnIdeal.nD Cert.FfnIdeal.τ).loc Cert.FfnIdeal.main_v15_4)) (v5 : (c : Dev Cert.FfnIdeal.nD) → Buf (Elt Ideal) ((c.tc : Thread Cert.FfnIdeal.nD Cert.FfnIdeal.τ).loc Cert.FfnIdeal.main_v15_5)) (v6 : (c : Dev Cert.FfnIdeal.nD) → Buf (Elt Ideal) ((c.tc : Thread Cert.FfnIdeal.nD Cert.FfnIdeal.τ).loc Cert.FfnIdeal.main_v15_6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v15_0) = v0 c
          ∧ r.2.mem ((c.tc : Thread Cert.FfnIdeal.nD Cert.FfnIdeal.τ).loc Cert.FfnIdeal.main_v15_1) = v1 c
          ∧ r.2.mem ((c.tc : Thread Cert.FfnIdeal.nD Cert.FfnIdeal.τ).loc Cert.FfnIdeal.main_v15_2) = v2 c
          ∧ r.2.mem ((c.tc : Thread Cert.FfnIdeal.nD Cert.FfnIdeal.τ).loc Cert.FfnIdeal.main_v15_3) = v3 c
          ∧ r.2.mem ((c.tc : Thread Cert.FfnIdeal.nD Cert.FfnIdeal.τ).loc Cert.FfnIdeal.main_v15_4) = v4 c
          ∧ r.2.mem ((c.tc : Thread Cert.FfnIdeal.nD Cert.FfnIdeal.τ).loc Cert.FfnIdeal.main_v15_5) = v5 c
          ∧ r.2.mem ((c.tc : Thread Cert.FfnIdeal.nD Cert.FfnIdeal.τ).loc Cert.FfnIdeal.main_v15_6) = v6 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11)
          ∧ r.2.mem ((c.tc : Thread Cert.FfnIdeal.nD Cert.FfnIdeal.τ).loc Cert.FfnIdeal.main_arg12) = m ((c.tc : Thread Cert.FfnIdeal.nD Cert.FfnIdeal.τ).loc Cert.FfnIdeal.main_arg12)
          ∧ r.2.mem ((c.tc : Thread Cert.FfnIdeal.nD Cert.FfnIdeal.τ).loc Cert.FfnIdeal.main_arg13) = m ((c.tc : Thread Cert.FfnIdeal.nD Cert.FfnIdeal.τ).loc Cert.FfnIdeal.main_arg13)
          ∧ r.2.mem ((c.tc : Thread Cert.FfnIdeal.nD Cert.FfnIdeal.τ).loc Cert.FfnIdeal.main_arg14) = m ((c.tc : Thread Cert.FfnIdeal.nD Cert.FfnIdeal.τ).loc Cert.FfnIdeal.main_arg14)
          ∧ r.2.mem ((c.tc : Thread Cert.FfnIdeal.nD Cert.FfnIdeal.τ).loc Cert.FfnIdeal.main_arg15) = m ((c.tc : Thread Cert.FfnIdeal.nD Cert.FfnIdeal.τ).loc Cert.FfnIdeal.main_arg15)
          ∧ r.2.mem ((c.tc : Thread Cert.FfnIdeal.nD Cert.FfnIdeal.τ).loc Cert.FfnIdeal.main_arg16) = m ((c.tc : Thread Cert.FfnIdeal.nD Cert.FfnIdeal.τ).loc Cert.FfnIdeal.main_arg16)
          ∧ r.2.mem ((c.tc : Thread Cert.FfnIdeal.nD Cert.FfnIdeal.τ).loc Cert.FfnIdeal.main_arg17) = m ((c.tc : Thread Cert.FfnIdeal.nD Cert.FfnIdeal.τ).loc Cert.FfnIdeal.main_arg17))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v17_0) = v0 c
          ∧ r.2.mem ((c.tc : Thread Cert.FfnRefIdeal.nD Cert.FfnRefIdeal.τ).loc Cert.FfnRefIdeal.main_v17_1) = v1 c
          ∧ r.2.mem ((c.tc : Thread Cert.FfnRefIdeal.nD Cert.FfnRefIdeal.τ).loc Cert.FfnRefIdeal.main_v17_2) = v2 c
          ∧ r.2.mem ((c.tc : Thread Cert.FfnRefIdeal.nD Cert.FfnRefIdeal.τ).loc Cert.FfnRefIdeal.main_v17_3) = v3 c
          ∧ r.2.mem ((c.tc : Thread Cert.FfnRefIdeal.nD Cert.FfnRefIdeal.τ).loc Cert.FfnRefIdeal.main_v17_4) = v4 c
          ∧ r.2.mem ((c.tc : Thread Cert.FfnRefIdeal.nD Cert.FfnRefIdeal.τ).loc Cert.FfnRefIdeal.main_v17_5) = v5 c
          ∧ r.2.mem ((c.tc : Thread Cert.FfnRefIdeal.nD Cert.FfnRefIdeal.τ).loc Cert.FfnRefIdeal.main_v17_6) = v6 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10)
          ∧ r.2.mem ((c.tc : Thread Cert.FfnRefIdeal.nD Cert.FfnRefIdeal.τ).loc Cert.FfnRefIdeal.main_arg11) = m' ((c.tc : Thread Cert.FfnRefIdeal.nD Cert.FfnRefIdeal.τ).loc Cert.FfnRefIdeal.main_arg11)
          ∧ r.2.mem ((c.tc : Thread Cert.FfnRefIdeal.nD Cert.FfnRefIdeal.τ).loc Cert.FfnRefIdeal.main_arg12) = m' ((c.tc : Thread Cert.FfnRefIdeal.nD Cert.FfnRefIdeal.τ).loc Cert.FfnRefIdeal.main_arg12)
          ∧ r.2.mem ((c.tc : Thread Cert.FfnRefIdeal.nD Cert.FfnRefIdeal.τ).loc Cert.FfnRefIdeal.main_arg13) = m' ((c.tc : Thread Cert.FfnRefIdeal.nD Cert.FfnRefIdeal.τ).loc Cert.FfnRefIdeal.main_arg13)
          ∧ r.2.mem ((c.tc : Thread Cert.FfnRefIdeal.nD Cert.FfnRefIdeal.τ).loc Cert.FfnRefIdeal.main_arg14) = m' ((c.tc : Thread Cert.FfnRefIdeal.nD Cert.FfnRefIdeal.τ).loc Cert.FfnRefIdeal.main_arg14)
          ∧ r.2.mem ((c.tc : Thread Cert.FfnRefIdeal.nD Cert.FfnRefIdeal.τ).loc Cert.FfnRefIdeal.main_arg15) = m' ((c.tc : Thread Cert.FfnRefIdeal.nD Cert.FfnRefIdeal.τ).loc Cert.FfnRefIdeal.main_arg15)
          ∧ r.2.mem ((c.tc : Thread Cert.FfnRefIdeal.nD Cert.FfnRefIdeal.τ).loc Cert.FfnRefIdeal.main_arg16) = m' ((c.tc : Thread Cert.FfnRefIdeal.nD Cert.FfnRefIdeal.τ).loc Cert.FfnRefIdeal.main_arg16)
          ∧ r.2.mem ((c.tc : Thread Cert.FfnRefIdeal.nD Cert.FfnRefIdeal.τ).loc Cert.FfnRefIdeal.main_arg17) = m' ((c.tc : Thread Cert.FfnRefIdeal.nD Cert.FfnRefIdeal.τ).loc Cert.FfnRefIdeal.main_arg17))

def Claim : Prop :=
  ∃ (hFfn : Cert.Ffn.Facts) (hFfnIdeal : Cert.FfnIdeal.Facts) (hFfnRefIdeal : Cert.FfnRefIdeal.Facts),
    quiescent_Ffn (hFfn := hFfn)
    ∧ quiescent_FfnIdeal (hFfnIdeal := hFfnIdeal)
    ∧ quiescent_FfnRefIdeal (hFfnRefIdeal := hFfnRefIdeal)
    ∧ preserves_Ffn_FfnIdeal
    ∧ algebraic_FfnIdeal_FfnRefIdeal (hFfnIdeal := hFfnIdeal) (hFfnRefIdeal := hFfnRefIdeal)
-- ==== Ffn.lean ====
abbrev S16x1536x640 : Shape := ⟨3, ![16, 1536, 640]⟩
abbrev S16x1x640 : Shape := ⟨3, ![16, 1, 640]⟩
abbrev S16x640x1536 : Shape := ⟨3, ![16, 640, 1536]⟩
abbrev S1536 : Shape := ⟨1, ![1536]⟩
abbrev S24x64x1536 : Shape := ⟨3, ![24, 64, 1536]⟩
abbrev S1536x6144 : Shape := ⟨2, ![1536, 6144]⟩
abbrev S6144 : Shape := ⟨1, ![6144]⟩
abbrev S6144x1536 : Shape := ⟨2, ![6144, 1536]⟩
abbrev S1x1536 : Shape := ⟨2, ![1, 1536]⟩
abbrev S1536x1536 : Shape := ⟨2, ![1536, 1536]⟩
abbrev S1x6144 : Shape := ⟨2, ![1, 6144]⟩
abbrev S40x1x256 : Shape := ⟨3, ![40, 1, 256]⟩
abbrev S10240x1536 : Shape := ⟨2, ![10240, 1536]⟩
abbrev S10240x6144 : Shape := ⟨2, ![10240, 6144]⟩
abbrev S1x1536x128 : Shape := ⟨3, ![1, 1536, 128]⟩
abbrev S1x1x256 : Shape := ⟨3, ![1, 1, 256]⟩
abbrev S256x1536 : Shape := ⟨2, ![256, 1536]⟩
abbrev S256x6144 : Shape := ⟨2, ![256, 6144]⟩
abbrev S256 : Shape := ⟨1, ![256]⟩
abbrev S256x1 : Shape := ⟨2, ![256, 1]⟩
abbrev S1536x128 : Shape := ⟨2, ![1536, 128]⟩
abbrev S128x1536 : Shape := ⟨2, ![128, 1536]⟩
abbrev S1x256 : Shape := ⟨2, ![1, 256]⟩
abbrev S1x128 : Shape := ⟨2, ![1, 128]⟩
abbrev S128x128 : Shape := ⟨2, ![128, 128]⟩
abbrev S128x1 : Shape := ⟨2, ![128, 1]⟩
abbrev S256x128 : Shape := ⟨2, ![256, 128]⟩
abbrev S1536x512 : Shape := ⟨2, ![1536, 512]⟩
abbrev S256x512 : Shape := ⟨2, ![256, 512]⟩
abbrev S1x512 : Shape := ⟨2, ![1, 512]⟩

abbrev nBuf : Space → Nat
  | .hbm => 40
  | .vmem => 39
  | .smem => 0
  | _ => 0

abbrev bufTy : (tb : Table) → Fin (tcTables nBuf tb) → BufTy
  | .hbm, ⟨0, _⟩ => ⟨S16x1536x640, .i8⟩
  | .hbm, ⟨1, _⟩ => ⟨S16x1x640, .f32⟩
  | .hbm, ⟨2, _⟩ => ⟨S16x640x1536, .bf16⟩
  | .hbm, ⟨3, _⟩ => ⟨S1536, .f32⟩
  | .hbm, ⟨4, _⟩ => ⟨S1536, .f32⟩
  | .hbm, ⟨5, _⟩ => ⟨S24x64x1536, .i8⟩
  | .hbm, ⟨6, _⟩ => ⟨S1536, .f32⟩
  | .hbm, ⟨7, _⟩ => ⟨S1536, .f32⟩
  | .hbm, ⟨8, _⟩ => ⟨S1536x6144, .i8⟩
  | .hbm, ⟨9, _⟩ => ⟨S6144, .f32⟩
  | .hbm, ⟨10, _⟩ => ⟨S6144, .f32⟩
  | .hbm, ⟨11, _⟩ => ⟨S6144x1536, .i8⟩
  | .hbm, ⟨12, _⟩ => ⟨S1536, .f32⟩
  | .hbm, ⟨13, _⟩ => ⟨S1536, .f32⟩
  | .hbm, ⟨14, _⟩ => ⟨S1536, .f32⟩
  | .hbm, ⟨15, _⟩ => ⟨S1536, .f32⟩
  | .hbm, ⟨16, _⟩ => ⟨S1536, .f32⟩
  | .hbm, ⟨17, _⟩ => ⟨S1536, .f32⟩
  | .hbm, ⟨18, _⟩ => ⟨S1x1536, .f32⟩
  | .hbm, ⟨19, _⟩ => ⟨S1x1536, .f32⟩
  | .hbm, ⟨20, _⟩ => ⟨S1536x1536, .i8⟩
  | .hbm, ⟨21, _⟩ => ⟨S1x1536, .f32⟩
  | .hbm, ⟨22, _⟩ => ⟨S1x1536, .f32⟩
  | .hbm, ⟨23, _⟩ => ⟨S1x1536, .f32⟩
  | .hbm, ⟨24, _⟩ => ⟨S1x1536, .f32⟩
  | .hbm, ⟨25, _⟩ => ⟨S1x6144, .f32⟩
  | .hbm, ⟨26, _⟩ => ⟨S1x6144, .f32⟩
  | .hbm, ⟨27, _⟩ => ⟨S1x1536, .f32⟩
  | .hbm, ⟨28, _⟩ => ⟨S1x1536, .f32⟩
  | .hbm, ⟨29, _⟩ => ⟨S1x1536, .f32⟩
  | .hbm, ⟨30, _⟩ => ⟨S1x1536, .f32⟩
  | .hbm, ⟨31, _⟩ => ⟨S40x1x256, .f32⟩
  | .hbm, ⟨32, _⟩ => ⟨S10240x1536, .bf16⟩
  | .hbm, ⟨33, _⟩ => ⟨S10240x1536, .i8⟩
  | .hbm, ⟨34, _⟩ => ⟨S40x1x256, .f32⟩
  | .hbm, ⟨35, _⟩ => ⟨S10240x1536, .f32⟩
  | .hbm, ⟨36, _⟩ => ⟨S10240x1536, .i8⟩
  | .hbm, ⟨37, _⟩ => ⟨S40x1x256, .f32⟩
  | .hbm, ⟨38, _⟩ => ⟨S10240x6144, .i8⟩
  | .hbm, ⟨39, _⟩ => ⟨S40x1x256, .f32⟩
  | .local _ .vmem, ⟨0, _⟩ => ⟨S1x1536x128, .i8⟩
  | .local _ .vmem, ⟨1, _⟩ => ⟨S1x1536x128, .i8⟩
  | .local _ .vmem, ⟨2, _⟩ => ⟨S1x1536x128, .i8⟩
  | .local _ .vmem, ⟨3, _⟩ => ⟨S1x1536x128, .i8⟩
  | .local _ .vmem, ⟨4, _⟩ => ⟨S1x1x256, .f32⟩
  | .local _ .vmem, ⟨5, _⟩ => ⟨S1x1x256, .f32⟩
  | .local _ .vmem, ⟨6, _⟩ => ⟨S256x1536, .bf16⟩
  | .local _ .vmem, ⟨7, _⟩ => ⟨S256x1536, .bf16⟩
  | .local _ .vmem, ⟨8, _⟩ => ⟨S1x1536, .f32⟩
  | .local _ .vmem, ⟨9, _⟩ => ⟨S1x1536, .f32⟩
  | .local _ .vmem, ⟨10, _⟩ => ⟨S1536x1536, .i8⟩
  | .local _ .vmem, ⟨11, _⟩ => ⟨S1x1536, .f32⟩
  | .local _ .vmem, ⟨12, _⟩ => ⟨S1x1536, .f32⟩
  | .local _ .vmem, ⟨13, _⟩ => ⟨S1x1536, .f32⟩
  | .local _ .vmem, ⟨14, _⟩ => ⟨S1x1536, .f32⟩
  | .local _ .vmem, ⟨15, _⟩ => ⟨S1536x6144, .i8⟩
  | .local _ .vmem, ⟨16, _⟩ => ⟨S1x6144, .f32⟩
  | .local _ .vmem, ⟨17, _⟩ => ⟨S1x6144, .f32⟩
  | .local _ .vmem, ⟨18, _⟩ => ⟨S6144x1536, .i8⟩
  | .local _ .vmem, ⟨19, _⟩ => ⟨S1x1536, .f32⟩
  | .local _ .vmem, ⟨20, _⟩ => ⟨S1x1536, .f32⟩
  | .local _ .vmem, ⟨21, _⟩ => ⟨S1x1536, .f32⟩
  | .local _ .vmem, ⟨22, _⟩ => ⟨S1x1536, .f32⟩
  | .local _ .vmem, ⟨23, _⟩ => ⟨S256x1536, .i8⟩
  | .local _ .vmem, ⟨24, _⟩ => ⟨S256x1536, .i8⟩
  | .local _ .vmem, ⟨25, _⟩ => ⟨S1x1x256, .f32⟩
  | .local _ .vmem, ⟨26, _⟩ => ⟨S1x1x256, .f32⟩
  | .local _ .vmem, ⟨27, _⟩ => ⟨S256x1536, .f32⟩
  | .local _ .vmem, ⟨28, _⟩ => ⟨S256x1536, .f32⟩
  | .local _ .vmem, ⟨29, _⟩ => ⟨S256x1536, .i8⟩
  | .local _ .vmem, ⟨30, _⟩ => ⟨S256x1536, .i8⟩
  | .local _ .vmem, ⟨31, _⟩ => ⟨S1x1x256, .f32⟩
  | .local _ .vmem, ⟨32, _⟩ => ⟨S1x1x256, .f32⟩
  | .local _ .vmem, ⟨33, _⟩ => ⟨S256x6144, .i8⟩
  | .local _ .vmem, ⟨34, _⟩ => ⟨S256x6144, .i8⟩
  | .local _ .vmem, ⟨35, _⟩ => ⟨S1x1x256, .f32⟩
  | .local _ .vmem, ⟨36, _⟩ => ⟨S1x1x256, .f32⟩
  | .local _ .vmem, ⟨37, _⟩ => ⟨S256x6144, .f32⟩
  | .local _ .vmem, ⟨38, _⟩ => ⟨S256x6144, .bf16⟩
  | _, _ => ⟨S16x1536x640, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15_0 : Ref sig .tc := ⟨.hbm, 33, rfl⟩
abbrev main_v15_1 : Ref sig .tc := ⟨.hbm, 34, rfl⟩
abbrev main_v15_2 : Ref sig .tc := ⟨.hbm, 35, rfl⟩
abbrev main_v15_3 : Ref sig .tc := ⟨.hbm, 36, rfl⟩
abbrev main_v15_4 : Ref sig .tc := ⟨.hbm, 37, rfl⟩
abbrev main_v15_5 : Ref sig .tc := ⟨.hbm, 38, rfl⟩
abbrev main_v15_6 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_stg24_0 : Ref sig .tc := ⟨.vmem, 33, rfl⟩
abbrev cc0_stg24_1 : Ref sig .tc := ⟨.vmem, 34, rfl⟩
abbrev cc0_stg25_0 : Ref sig .tc := ⟨.vmem, 35, rfl⟩
abbrev cc0_stg25_1 : Ref sig .tc := ⟨.vmem, 36, rfl⟩
abbrev cc0_scratch0 : Ref sig .tc := ⟨.vmem, 37, rfl⟩
abbrev cc0_scratch1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28
abbrev cc0_sem22_0 : DmaSem sig := 29
abbrev cc0_sem22_1 : DmaSem sig := 30
abbrev cc0_sem23_0 : DmaSem sig := 31
abbrev cc0_sem23_1 : DmaSem sig := 32
abbrev cc0_sem24_0 : DmaSem sig := 33
abbrev cc0_sem24_1 : DmaSem sig := 34
abbrev cc0_sem25_0 : DmaSem sig := 35
abbrev cc0_sem25_1 : DmaSem sig := 36

abbrev nD : Nat := 1
abbrev τ : Topo := Topo.v7x

variable {F : FTy → Type} [FloatOps F]

abbrev grid0 : Pipeline.Grid := ⟨1, ![40], ![false]⟩

def cc0_transform_0 (i : grid0.Coords) : Fin 3 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c5_i32 : BitVec 32 := 5#32
  let v2 : BitVec 32 := Scalar.divsi v1 c5_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c5_i32 c0_i32_2
  let v9 : BitVec 32 := Scalar.extui v8
  let c0_i32_3 : BitVec 32 := 0#32
  let v10 : BitVec 1 := Scalar.cmpi .slt c5_i32 c0_i32_3
  let v11 : BitVec 32 := Scalar.extui v10
  let v12 : BitVec 32 := Scalar.subi v9 v11
  let v13 : BitVec 1 := Scalar.cmpi .ne v7 v12
  let v14 : BitVec 32 := Scalar.remsi v1 c5_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c2_i32_5 : BitVec 32 := 2#32
  let v19 : BitVec 32 := Scalar.muli c2_i32_5 arg0
  let c0_i32_6 : BitVec 32 := 0#32
  let v20 : BitVec 32 := Scalar.addi v19 c0_i32_6
  let c5_i32_7 : BitVec 32 := 5#32
  let c0_i32_8 : BitVec 32 := 0#32
  let v21 : BitVec 1 := Scalar.cmpi .eq c5_i32_7 c0_i32_8
  let c1_i32_9 : BitVec 32 := 1#32
  let v22 : BitVec 32 := Scalar.select v21 c1_i32_9 c5_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c5_i32 : BitVec 32 := 5#32
  let v2 : BitVec 32 := Scalar.divsi v1 c5_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c5_i32 c0_i32_1
  let v9 : BitVec 32 := Scalar.extui v8
  let c0_i32_2 : BitVec 32 := 0#32
  let v10 : BitVec 1 := Scalar.cmpi .slt c5_i32 c0_i32_2
  let v11 : BitVec 32 := Scalar.extui v10
  let v12 : BitVec 32 := Scalar.subi v9 v11
  let v13 : BitVec 1 := Scalar.cmpi .ne v7 v12
  let v14 : BitVec 32 := Scalar.remsi v1 c5_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c2_i32_5 : BitVec 32 := 2#32
  let v19 : BitVec 32 := Scalar.muli c2_i32_5 arg0
  let c1_i32_6 : BitVec 32 := 1#32
  let v20 : BitVec 32 := Scalar.addi v19 c1_i32_6
  let c5_i32_7 : BitVec 32 := 5#32
  let c0_i32_8 : BitVec 32 := 0#32
  let v21 : BitVec 1 := Scalar.cmpi .eq c5_i32_7 c0_i32_8
  let c1_i32_9 : BitVec 32 := 1#32
  let v22 : BitVec 32 := Scalar.select v21 c1_i32_9 c5_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![v18.toNat, c0_i32_13.toNat, v30.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1536x128 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1536x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x1536 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1536x6144 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x6144 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x6144 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S6144x1536 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1536 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1536 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1536 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1536 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x1536 .i8 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1536 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1536 .i8 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x1x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x6144 .i8 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x1x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== FfnIdeal.lean ====
variable {F : FTy → Type} [FloatOps F] [Named F]
def κ : String → Option EReal := fun
  | "inv_127" => some ((1 / 127 : ℝ) : EReal)
  | _ => none
-- ==== FfnRefIdeal.lean ====
abbrev S16x1536x640 : Shape := ⟨3, ![16, 1536, 640]⟩
abbrev S16x1x640 : Shape := ⟨3, ![16, 1, 640]⟩
abbrev S16x640x1536 : Shape := ⟨3, ![16, 640, 1536]⟩
abbrev S1536 : Shape := ⟨1, ![1536]⟩
abbrev S24x64x1536 : Shape := ⟨3, ![24, 64, 1536]⟩
abbrev S1536x6144 : Shape := ⟨2, ![1536, 6144]⟩
abbrev S6144 : Shape := ⟨1, ![6144]⟩
abbrev S6144x1536 : Shape := ⟨2, ![6144, 1536]⟩
abbrev S10240x1536 : Shape := ⟨2, ![10240, 1536]⟩
abbrev S10240x1 : Shape := ⟨2, ![10240, 1]⟩
abbrev S1x1536 : Shape := ⟨2, ![1, 1536]⟩
abbrev S1536x1536 : Shape := ⟨2, ![1536, 1536]⟩
abbrev S1x6144 : Shape := ⟨2, ![1, 6144]⟩
abbrev S40x1x256 : Shape := ⟨3, ![40, 1, 256]⟩
abbrev S10240x6144 : Shape := ⟨2, ![10240, 6144]⟩
abbrev S10240 : Shape := ⟨1, ![10240]⟩

abbrev nBuf : Space → Nat
  | .hbm => 42
  | .vmem => 25
  | .smem => 0
  | _ => 0

abbrev bufTy : (tb : Table) → Fin (tcTables nBuf tb) → BufTy
  | .hbm, ⟨0, _⟩ => ⟨S16x1536x640, .i8⟩
  | .hbm, ⟨1, _⟩ => ⟨S16x1x640, .f32⟩
  | .hbm, ⟨2, _⟩ => ⟨S16x640x1536, .bf16⟩
  | .hbm, ⟨3, _⟩ => ⟨S1536, .f32⟩
  | .hbm, ⟨4, _⟩ => ⟨S1536, .f32⟩
  | .hbm, ⟨5, _⟩ => ⟨S24x64x1536, .i8⟩
  | .hbm, ⟨6, _⟩ => ⟨S1536, .f32⟩
  | .hbm, ⟨7, _⟩ => ⟨S1536, .f32⟩
  | .hbm, ⟨8, _⟩ => ⟨S1536x6144, .i8⟩
  | .hbm, ⟨9, _⟩ => ⟨S6144, .f32⟩
  | .hbm, ⟨10, _⟩ => ⟨S6144, .f32⟩
  | .hbm, ⟨11, _⟩ => ⟨S6144x1536, .i8⟩
  | .hbm, ⟨12, _⟩ => ⟨S1536, .f32⟩
  | .hbm, ⟨13, _⟩ => ⟨S1536, .f32⟩
  | .hbm, ⟨14, _⟩ => ⟨S1536, .f32⟩
  | .hbm, ⟨15, _⟩ => ⟨S1536, .f32⟩
  | .hbm, ⟨16, _⟩ => ⟨S1536, .f32⟩
  | .hbm, ⟨17, _⟩ => ⟨S1536, .f32⟩
  | .hbm, ⟨18, _⟩ => ⟨S16x640x1536, .i8⟩
  | .hbm, ⟨19, _⟩ => ⟨S10240x1536, .i8⟩
  | .hbm, ⟨20, _⟩ => ⟨S10240x1, .f32⟩
  | .hbm, ⟨21, _⟩ => ⟨S10240x1536, .bf16⟩
  | .hbm, ⟨22, _⟩ => ⟨S1x1536, .f32⟩
  | .hbm, ⟨23, _⟩ => ⟨S1x1536, .f32⟩
  | .hbm, ⟨24, _⟩ => ⟨S1536x1536, .i8⟩
  | .hbm, ⟨25, _⟩ => ⟨S1x1536, .f32⟩
  | .hbm, ⟨26, _⟩ => ⟨S1x1536, .f32⟩
  | .hbm, ⟨27, _⟩ => ⟨S1x6144, .f32⟩
  | .hbm, ⟨28, _⟩ => ⟨S1x6144, .f32⟩
  | .hbm, ⟨29, _⟩ => ⟨S1x1536, .f32⟩
  | .hbm, ⟨30, _⟩ => ⟨S1x1536, .f32⟩
  | .hbm, ⟨31, _⟩ => ⟨S1x1536, .f32⟩
  | .hbm, ⟨32, _⟩ => ⟨S1x1536, .f32⟩
  | .hbm, ⟨33, _⟩ => ⟨S1x1536, .f32⟩
  | .hbm, ⟨34, _⟩ => ⟨S1x1536, .f32⟩
  | .hbm, ⟨35, _⟩ => ⟨S10240x1536, .i8⟩
  | .hbm, ⟨36, _⟩ => ⟨S40x1x256, .f32⟩
  | .hbm, ⟨37, _⟩ => ⟨S10240x1536, .f32⟩
  | .hbm, ⟨38, _⟩ => ⟨S10240x1536, .i8⟩
  | .hbm, ⟨39, _⟩ => ⟨S40x1x256, .f32⟩
  | .hbm, ⟨40, _⟩ => ⟨S10240x6144, .i8⟩
  | .hbm, ⟨41, _⟩ => ⟨S40x1x256, .f32⟩
  | .local _ .vmem, ⟨0, _⟩ => ⟨S10240x1536, .i8⟩
  | .local _ .vmem, ⟨1, _⟩ => ⟨S10240x1, .f32⟩
  | .local _ .vmem, ⟨2, _⟩ => ⟨S10240x1536, .bf16⟩
  | .local _ .vmem, ⟨3, _⟩ => ⟨S1x1536, .f32⟩
  | .local _ .vmem, ⟨4, _⟩ => ⟨S1x1536, .f32⟩
  | .local _ .vmem, ⟨5, _⟩ => ⟨S1536x1536, .i8⟩
  | .local _ .vmem, ⟨6, _⟩ => ⟨S1x1536, .f32⟩
  | .local _ .vmem, ⟨7, _⟩ => ⟨S1x1536, .f32⟩
  | .local _ .vmem, ⟨8, _⟩ => ⟨S1536x6144, .i8⟩
  | .local _ .vmem, ⟨9, _⟩ => ⟨S1x6144, .f32⟩
  | .local _ .vmem, ⟨10, _⟩ => ⟨S1x6144, .f32⟩
  | .local _ .vmem, ⟨11, _⟩ => ⟨S6144x1536, .i8⟩
  | .local _ .vmem, ⟨12, _⟩ => ⟨S1x1536, .f32⟩
  | .local _ .vmem, ⟨13, _⟩ => ⟨S1x1536, .f32⟩
  | .local _ .vmem, ⟨14, _⟩ => ⟨S1x1536, .f32⟩
  | .local _ .vmem, ⟨15, _⟩ => ⟨S1x1536, .f32⟩
  | .local _ .vmem, ⟨16, _⟩ => ⟨S1x1536, .f32⟩
  | .local _ .vmem, ⟨17, _⟩ => ⟨S1x1536, .f32⟩
  | .local _ .vmem, ⟨18, _⟩ => ⟨S10240x1536, .i8⟩
  | .local _ .vmem, ⟨19, _⟩ => ⟨S40x1x256, .f32⟩
  | .local _ .vmem, ⟨20, _⟩ => ⟨S10240x1536, .f32⟩
  | .local _ .vmem, ⟨21, _⟩ => ⟨S10240x1536, .i8⟩
  | .local _ .vmem, ⟨22, _⟩ => ⟨S40x1x256, .f32⟩
  | .local _ .vmem, ⟨23, _⟩ => ⟨S10240x6144, .i8⟩
  | .local _ .vmem, ⟨24, _⟩ => ⟨S40x1x256, .f32⟩
  | _, _ => ⟨S16x1536x640, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17_0 : Ref sig .tc := ⟨.hbm, 35, rfl⟩
abbrev main_v17_1 : Ref sig .tc := ⟨.hbm, 36, rfl⟩
abbrev main_v17_2 : Ref sig .tc := ⟨.hbm, 37, rfl⟩
abbrev main_v17_3 : Ref sig .tc := ⟨.hbm, 38, rfl⟩
abbrev main_v17_4 : Ref sig .tc := ⟨.hbm, 39, rfl⟩
abbrev main_v17_5 : Ref sig .tc := ⟨.hbm, 40, rfl⟩
abbrev main_v17_6 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24

abbrev nD : Nat := 1
abbrev τ : Topo := Topo.v7x

variable {F : FTy → Type} [FloatOps F]

abbrev grid0 : Pipeline.Grid := .none

abbrev stage0_0 : Fin 1 → Memref sig .tc .vmem S10240x1536 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10240x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10240x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x1536 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x6144 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x6144 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x6144 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6144x1536 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1536 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1536 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1536 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1536 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S10240x1536 .i8 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S40x1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S10240x1536 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S10240x1536 .i8 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S40x1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S10240x6144 .i8 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S40x1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
-- ==== Proof.Ffn.RunA.lean ====
/- The whole-body run of `proofs.«01_k».proof.Ffn`'s kernel (`Gen.kernelRun0_A`: the body's triple by `sl_exec` over the
   skeleton; the pieces each buffer ends with are the witness). The text is the generated module's, with a larger limit
   on the run's elaboration. -/
module

public import proofs.«01_k».proof.Proof.Gen.Ffn.Frame.Runs

@[expose] public section

-- membership in a rectangle of production extents (`View.cover_of_tiled`): the elaborator's structural look
-- recurses once per coordinate of the long axes
set_option maxRecDepth 16384

noncomputable section

namespace Cert.Ffn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) :
    Σ' (L19 : List (View.Piece (Elt F) S256x1536 .i8)), Σ' (L20 : List (View.Piece (Elt F) S1x1x256 .f32)), Σ' (L21 : List (View.Piece (Elt F) S256x1536 .f32)), Σ' (L22 : List (View.Piece (Elt F) S256x1536 .i8)), Σ' (L23 : List (View.Piece (Elt F) S1x1x256 .f32)), Σ' (L24 : List (View.Piece (Elt F) S256x6144 .i8)), Σ' (L25 : List (View.Piece (Elt F) S1x1x256 .f32)), Σ' (LT0 : List (View.Piece (Elt F) S256x6144 .f32)), { LT1 : List (View.Piece (Elt F) S256x6144 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f LT0) ∗ (∃ f, arg28.view.loc (c : Thread nD τ) ↦[arg28.view.set]{fullShare} arg28.view.writes (Elt F) f LT1)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, ?_, ?_, ?_, fun E K => ?run⟩
  case run =>
    simp only [cc0_ffn_eq_skeleton]; unfold cc0_ffn_skel
    simp only [k0_part20_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [HS0]; · iexists _; iexact HS0
    iexists _; iexact HS1

end Cert.Ffn.Gen

end
-- ==== Proof.Ffn.Frame.lean ====
/- The frame certificate of `proofs.«01_k».proof.Ffn`, over the run of RunA.lean: what the outputs and the two scratch buffers
   hold point by point (`Gen.outsAt0`), the proof data (`Gen.dats`), the body obligation, the run (`Gen.run_main`) and
   `Gen.frame`. The text is the generated module's. -/
module

public import proofs.«01_k».proof.Proof.Ffn.RunA
public import Idealize.ShloMosaic.Lib.Claim

@[expose] public section

-- membership in a rectangle of production extents (`View.cover_of_tiled`): the elaborator's structural look
-- recurses once per coordinate of the long axes
set_option maxRecDepth 16384

noncomputable section

namespace Cert.Ffn.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 19 tile its block (1 store of `S256x1536`, checked by the kernel's evaluation: Lib/Ring.lean `Piece.tiledL`, linear in the pieces, through a loop's `@[irreducible]` trip theorem too), so they cover it. -/
theorem cover0_A_19 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) (y : S256x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).1 S256x1536.size (by sl_kernel_rfl) y

/-- What the run leaves in output 19's staging buffer: its pieces read back over junk. -/
def out0_A_19 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) : Vec F S256x1536 .i8 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).1)

/-- The run's pieces for output 20 tile its block (1 store of `S1x1x256`, checked by the kernel's evaluation: Lib/Ring.lean `Piece.tiledL`, linear in the pieces, through a loop's `@[irreducible]` trip theorem too), so they cover it. -/
theorem cover0_A_20 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) (y : S1x1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.1 S1x1x256.size (by sl_kernel_rfl) y

/-- What the run leaves in output 20's staging buffer: its pieces read back over junk. -/
def out0_A_20 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) : Vec F S1x1x256 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.1)

/-- The run's pieces for output 21 tile its block (1 store of `S256x1536`, checked by the kernel's evaluation: Lib/Ring.lean `Piece.tiledL`, linear in the pieces, through a loop's `@[irreducible]` trip theorem too), so they cover it. -/
theorem cover0_A_21 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) (y : S256x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.1 S256x1536.size (by sl_kernel_rfl) y

/-- What the run leaves in output 21's staging buffer: its pieces read back over junk. -/
def out0_A_21 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) : Vec F S256x1536 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.1)

/-- The run's pieces for output 22 tile its block (1 store of `S256x1536`, checked by the kernel's evaluation: Lib/Ring.lean `Piece.tiledL`, linear in the pieces, through a loop's `@[irreducible]` trip theorem too), so they cover it. -/
theorem cover0_A_22 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) (y : S256x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.2.1 S256x1536.size (by sl_kernel_rfl) y

/-- What the run leaves in output 22's staging buffer: its pieces read back over junk. -/
def out0_A_22 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) : Vec F S256x1536 .i8 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.2.1)

/-- The run's pieces for output 23 tile its block (1 store of `S1x1x256`, checked by the kernel's evaluation: Lib/Ring.lean `Piece.tiledL`, linear in the pieces, through a loop's `@[irreducible]` trip theorem too), so they cover it. -/
theorem cover0_A_23 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) (y : S1x1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.2.2.1 S1x1x256.size (by sl_kernel_rfl) y

/-- What the run leaves in output 23's staging buffer: its pieces read back over junk. -/
def out0_A_23 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) : Vec F S1x1x256 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.2.2.1)

/-- The run's pieces for output 24 tile its block (12 stores of `S256x512`, checked by the kernel's evaluation: Lib/Ring.lean `Piece.tiledL`, linear in the pieces, through a loop's `@[irreducible]` trip theorem too), so they cover it. -/
theorem cover0_A_24 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) (y : S256x6144.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.2.2.2.1 S256x512.size (by sl_kernel_rfl) y

/-- What the run leaves in output 24's staging buffer: its pieces read back over junk. -/
def out0_A_24 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) : Vec F S256x6144 .i8 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.2.2.2.1)

/-- The run's pieces for output 25 tile its block (1 store of `S1x1x256`, checked by the kernel's evaluation: Lib/Ring.lean `Piece.tiledL`, linear in the pieces, through a loop's `@[irreducible]` trip theorem too), so they cover it. -/
theorem cover0_A_25 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) (y : S1x1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.2.2.2.2.1 S1x1x256.size (by sl_kernel_rfl) y

/-- What the run leaves in output 25's staging buffer: its pieces read back over junk. -/
def out0_A_25 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) : Vec F S1x1x256 .f32 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S256x1536 .i8 × Vec F S1x1x256 .f32 × Vec F S256x1536 .f32 × Vec F S256x1536 .i8 × Vec F S1x1x256 .f32 × Vec F S256x6144 .i8 × Vec F S1x1x256 .f32 :=
  (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt0 m c t).1
    | ⟨20, _⟩ => (outsAt0 m c t).2.1
    | ⟨21, _⟩ => (outsAt0 m c t).2.2.1
    | ⟨22, _⟩ => (outsAt0 m c t).2.2.2.1
    | ⟨23, _⟩ => (outsAt0 m c t).2.2.2.2.1
    | ⟨24, _⟩ => (outsAt0 m c t).2.2.2.2.2.1
    | ⟨25, _⟩ => (outsAt0 m c t).2.2.2.2.2.2
    | ⟨_ + 26, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = (outsAt0 m c t).1 := by dsimp only [dats]
theorem after0_20 (c : Dev nD) (t : Fin cfg0.N) : (dats m 0 c).after 20 t = (outsAt0 m c t).2.1 := by dsimp only [dats]
theorem after0_21 (c : Dev nD) (t : Fin cfg0.N) : (dats m 0 c).after 21 t = (outsAt0 m c t).2.2.1 := by dsimp only [dats]
theorem after0_22 (c : Dev nD) (t : Fin cfg0.N) : (dats m 0 c).after 22 t = (outsAt0 m c t).2.2.2.1 := by dsimp only [dats]
theorem after0_23 (c : Dev nD) (t : Fin cfg0.N) : (dats m 0 c).after 23 t = (outsAt0 m c t).2.2.2.2.1 := by dsimp only [dats]
theorem after0_24 (c : Dev nD) (t : Fin cfg0.N) : (dats m 0 c).after 24 t = (outsAt0 m c t).2.2.2.2.2.1 := by dsimp only [dats]
theorem after0_25 (c : Dev nD) (t : Fin cfg0.N) : (dats m 0 c).after 25 t = (outsAt0 m c t).2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 2800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  rw [show (dats m 0 c).Φ t.castSucc = Pipeline.ΦA spec0 c from rfl, PhiA0_eq]
  unfold outsAt0
  unfold out0_A_19 out0_A_20 out0_A_21 out0_A_22 out0_A_23 out0_A_24 out0_A_25; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [HS0]; · iexact HS0
  isplitl [HS1]; · iexact HS1
  iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, ⟨%e24, H24⟩, ⟨%e25, H25⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H25
  ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- THE FRAME: `Cert.quiescent_Ffn`'s statement (Defs.lean) at any `F` — Proof.lean cites it at `Bits`:
    `theorem Cert.Proof.claim : Cert.Claim := ⟨Cert.Ffn.Gen.facts, fun m ρ _ => Cert.Ffn.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.Ffn.Gen

end
-- ==== Proof.FfnIdeal.RunA.lean ====
/- The whole-body run of `proofs.«01_k».proof.FfnIdeal`'s kernel (`Gen.kernelRun0_A`: the body's triple by `sl_exec` over the
   skeleton; the pieces each buffer ends with are the witness). The text is the generated module's, with a larger limit
   on the run's elaboration. -/
module

public import proofs.«01_k».proof.Proof.Gen.FfnIdeal.Frame.Runs

@[expose] public section

-- membership in a rectangle of production extents (`View.cover_of_tiled`): the elaborator's structural look
-- recurses once per coordinate of the long axes
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) :
    Σ' (L19 : List (View.Piece (Elt F) S256x1536 .i8)), Σ' (L20 : List (View.Piece (Elt F) S1x1x256 .f32)), Σ' (L21 : List (View.Piece (Elt F) S256x1536 .f32)), Σ' (L22 : List (View.Piece (Elt F) S256x1536 .i8)), Σ' (L23 : List (View.Piece (Elt F) S1x1x256 .f32)), Σ' (L24 : List (View.Piece (Elt F) S256x6144 .i8)), Σ' (L25 : List (View.Piece (Elt F) S1x1x256 .f32)), Σ' (LT0 : List (View.Piece (Elt F) S256x6144 .f32)), { LT1 : List (View.Piece (Elt F) S256x6144 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f LT0) ∗ (∃ f, arg28.view.loc (c : Thread nD τ) ↦[arg28.view.set]{fullShare} arg28.view.writes (Elt F) f LT1)) -∗ K ⟨⟩))
          ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, ?_, ?_, ?_, fun E K => ?run⟩
  case run =>
    simp only [cc0_ffn_eq_skeleton]; unfold cc0_ffn_skel
    simp only [k0_part20_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [HS0]; · iexists _; iexact HS0
    iexists _; iexact HS1

end Cert.FfnIdeal.Gen

end
-- ==== Proof.FfnIdeal.Frame.lean ====
/- The frame certificate of `proofs.«01_k».proof.FfnIdeal`, over the run of RunA.lean: what the outputs and the two scratch buffers
   hold point by point (`Gen.outsAt0`), the proof data (`Gen.dats`), the body obligation, the run (`Gen.run_main`) and
   `Gen.frame`. The text is the generated module's. -/
module

public import proofs.«01_k».proof.Proof.FfnIdeal.RunA
public import Idealize.ShloMosaic.Lib.Claim

@[expose] public section

-- membership in a rectangle of production extents (`View.cover_of_tiled`): the elaborator's structural look
-- recurses once per coordinate of the long axes
set_option maxRecDepth 16384

noncomputable section

namespace Cert.FfnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 19 tile its block (1 store of `S256x1536`, checked by the kernel's evaluation: Lib/Ring.lean `Piece.tiledL`, linear in the pieces, through a loop's `@[irreducible]` trip theorem too), so they cover it. -/
theorem cover0_A_19 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) (y : S256x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).1 S256x1536.size (by sl_kernel_rfl) y

/-- What the run leaves in output 19's staging buffer: its pieces read back over junk. -/
def out0_A_19 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) : Vec F S256x1536 .i8 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).1)

/-- The run's pieces for output 20 tile its block (1 store of `S1x1x256`, checked by the kernel's evaluation: Lib/Ring.lean `Piece.tiledL`, linear in the pieces, through a loop's `@[irreducible]` trip theorem too), so they cover it. -/
theorem cover0_A_20 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) (y : S1x1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.1 S1x1x256.size (by sl_kernel_rfl) y

/-- What the run leaves in output 20's staging buffer: its pieces read back over junk. -/
def out0_A_20 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) : Vec F S1x1x256 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.1)

/-- The run's pieces for output 21 tile its block (1 store of `S256x1536`, checked by the kernel's evaluation: Lib/Ring.lean `Piece.tiledL`, linear in the pieces, through a loop's `@[irreducible]` trip theorem too), so they cover it. -/
theorem cover0_A_21 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) (y : S256x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.1 S256x1536.size (by sl_kernel_rfl) y

/-- What the run leaves in output 21's staging buffer: its pieces read back over junk. -/
def out0_A_21 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) : Vec F S256x1536 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.1)

/-- The run's pieces for output 22 tile its block (1 store of `S256x1536`, checked by the kernel's evaluation: Lib/Ring.lean `Piece.tiledL`, linear in the pieces, through a loop's `@[irreducible]` trip theorem too), so they cover it. -/
theorem cover0_A_22 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) (y : S256x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.2.1 S256x1536.size (by sl_kernel_rfl) y

/-- What the run leaves in output 22's staging buffer: its pieces read back over junk. -/
def out0_A_22 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) : Vec F S256x1536 .i8 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.2.1)

/-- The run's pieces for output 23 tile its block (1 store of `S1x1x256`, checked by the kernel's evaluation: Lib/Ring.lean `Piece.tiledL`, linear in the pieces, through a loop's `@[irreducible]` trip theorem too), so they cover it. -/
theorem cover0_A_23 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) (y : S1x1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.2.2.1 S1x1x256.size (by sl_kernel_rfl) y

/-- What the run leaves in output 23's staging buffer: its pieces read back over junk. -/
def out0_A_23 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) : Vec F S1x1x256 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.2.2.1)

/-- The run's pieces for output 24 tile its block (12 stores of `S256x512`, checked by the kernel's evaluation: Lib/Ring.lean `Piece.tiledL`, linear in the pieces, through a loop's `@[irreducible]` trip theorem too), so they cover it. -/
theorem cover0_A_24 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) (y : S256x6144.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.2.2.2.1 S256x512.size (by sl_kernel_rfl) y

/-- What the run leaves in output 24's staging buffer: its pieces read back over junk. -/
def out0_A_24 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) : Vec F S256x6144 .i8 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.2.2.2.1)

/-- The run's pieces for output 25 tile its block (1 store of `S1x1x256`, checked by the kernel's evaluation: Lib/Ring.lean `Piece.tiledL`, linear in the pieces, through a loop's `@[irreducible]` trip theorem too), so they cover it. -/
theorem cover0_A_25 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) (y : S1x1x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.2.2.2.2.1 S1x1x256.size (by sl_kernel_rfl) y

/-- What the run leaves in output 25's staging buffer: its pieces read back over junk. -/
def out0_A_25 (c : Dev nD) (i : grid0.Coords) (arg1 : Memref sig .tc .vmem S1x1536x128 .i8) (harg1 : arg1.IsWhole) (arg2 : Memref sig .tc .vmem S1x1536x128 .i8) (harg2 : arg2.IsWhole) (arg3 : Memref sig .tc .vmem S1x1x256 .f32) (harg3 : arg3.IsWhole) (arg4 : Memref sig .tc .vmem S256x1536 .bf16) (harg4 : arg4.IsWhole) (arg5 : Memref sig .tc .vmem S1x1536 .f32) (harg5 : arg5.IsWhole) (arg6 : Memref sig .tc .vmem S1x1536 .f32) (harg6 : arg6.IsWhole) (arg7 : Memref sig .tc .vmem S1536x1536 .i8) (harg7 : arg7.IsWhole) (arg8 : Memref sig .tc .vmem S1x1536 .f32) (harg8 : arg8.IsWhole) (arg9 : Memref sig .tc .vmem S1x1536 .f32) (harg9 : arg9.IsWhole) (arg10 : Memref sig .tc .vmem S1x1536 .f32) (harg10 : arg10.IsWhole) (arg11 : Memref sig .tc .vmem S1x1536 .f32) (harg11 : arg11.IsWhole) (arg12 : Memref sig .tc .vmem S1536x6144 .i8) (harg12 : arg12.IsWhole) (arg13 : Memref sig .tc .vmem S1x6144 .f32) (harg13 : arg13.IsWhole) (arg14 : Memref sig .tc .vmem S1x6144 .f32) (harg14 : arg14.IsWhole) (arg15 : Memref sig .tc .vmem S6144x1536 .i8) (harg15 : arg15.IsWhole) (arg16 : Memref sig .tc .vmem S1x1536 .f32) (harg16 : arg16.IsWhole) (arg17 : Memref sig .tc .vmem S1x1536 .f32) (harg17 : arg17.IsWhole) (arg18 : Memref sig .tc .vmem S1x1536 .f32) (harg18 : arg18.IsWhole) (arg19 : Memref sig .tc .vmem S1x1536 .f32) (harg19 : arg19.IsWhole) (arg20 : Memref sig .tc .vmem S256x1536 .i8) (harg20 : arg20.IsWhole) (arg21 : Memref sig .tc .vmem S1x1x256 .f32) (harg21 : arg21.IsWhole) (arg22 : Memref sig .tc .vmem S256x1536 .f32) (harg22 : arg22.IsWhole) (arg23 : Memref sig .tc .vmem S256x1536 .i8) (harg23 : arg23.IsWhole) (arg24 : Memref sig .tc .vmem S1x1x256 .f32) (harg24 : arg24.IsWhole) (arg25 : Memref sig .tc .vmem S256x6144 .i8) (harg25 : arg25.IsWhole) (arg26 : Memref sig .tc .vmem S1x1x256 .f32) (harg26 : arg26.IsWhole) (arg27 : Memref sig .tc .vmem S256x6144 .f32) (harg27 : arg27.IsWhole) (arg28 : Memref sig .tc .vmem S256x6144 .bf16) (harg28 : arg28.IsWhole)
    (x0 : Vec F S1x1536x128 .i8) (x1 : Vec F S1x1536x128 .i8) (x2 : Vec F S1x1x256 .f32) (x3 : Vec F S256x1536 .bf16) (x4 : Vec F S1x1536 .f32) (x5 : Vec F S1x1536 .f32) (x6 : Vec F S1536x1536 .i8) (x7 : Vec F S1x1536 .f32) (x8 : Vec F S1x1536 .f32) (x9 : Vec F S1x1536 .f32) (x10 : Vec F S1x1536 .f32) (x11 : Vec F S1536x6144 .i8) (x12 : Vec F S1x6144 .f32) (x13 : Vec F S1x6144 .f32) (x14 : Vec F S6144x1536 .i8) (x15 : Vec F S1x1536 .f32) (x16 : Vec F S1x1536 .f32) (x17 : Vec F S1x1536 .f32) (x18 : Vec F S1x1536 .f32) : Vec F S1x1x256 .f32 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 x0 x1 x2 x3 x4 x5 x6 x7 x8 x9 x10 x11 x12 x13 x14 x15 x16 x17 x18).2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S256x1536 .i8 × Vec F S1x1x256 .f32 × Vec F S256x1536 .f32 × Vec F S256x1536 .i8 × Vec F S1x1x256 .f32 × Vec F S256x6144 .i8 × Vec F S1x1x256 .f32 :=
  (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt0 m c t).1
    | ⟨20, _⟩ => (outsAt0 m c t).2.1
    | ⟨21, _⟩ => (outsAt0 m c t).2.2.1
    | ⟨22, _⟩ => (outsAt0 m c t).2.2.2.1
    | ⟨23, _⟩ => (outsAt0 m c t).2.2.2.2.1
    | ⟨24, _⟩ => (outsAt0 m c t).2.2.2.2.2.1
    | ⟨25, _⟩ => (outsAt0 m c t).2.2.2.2.2.2
    | ⟨_ + 26, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = (outsAt0 m c t).1 := by dsimp only [dats]
theorem after0_20 (c : Dev nD) (t : Fin cfg0.N) : (dats m 0 c).after 20 t = (outsAt0 m c t).2.1 := by dsimp only [dats]
theorem after0_21 (c : Dev nD) (t : Fin cfg0.N) : (dats m 0 c).after 21 t = (outsAt0 m c t).2.2.1 := by dsimp only [dats]
theorem after0_22 (c : Dev nD) (t : Fin cfg0.N) : (dats m 0 c).after 22 t = (outsAt0 m c t).2.2.2.1 := by dsimp only [dats]
theorem after0_23 (c : Dev nD) (t : Fin cfg0.N) : (dats m 0 c).after 23 t = (outsAt0 m c t).2.2.2.2.1 := by dsimp only [dats]
theorem after0_24 (c : Dev nD) (t : Fin cfg0.N) : (dats m 0 c).after 24 t = (outsAt0 m c t).2.2.2.2.2.1 := by dsimp only [dats]
theorem after0_25 (c : Dev nD) (t : Fin cfg0.N) : (dats m 0 c).after 25 t = (outsAt0 m c t).2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 2800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  rw [show (dats m 0 c).Φ t.castSucc = Pipeline.ΦA spec0 c from rfl, PhiA0_eq]
  unfold outsAt0
  unfold out0_A_19 out0_A_20 out0_A_21 out0_A_22 out0_A_23 out0_A_24 out0_A_25; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [HS0]; · iexact HS0
  isplitl [HS1]; · iexact HS1
  iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, ⟨%e24, H24⟩, ⟨%e25, H25⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H22]
  · unfold owns; iexists _; isplitr
    swap; · iexact H22
    ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H23]
  · unfold owns; iexists _; isplitr
    swap; · iexact H23
    ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H24]
  · unfold owns; iexists _; isplitr
    swap; · iexact H24
    ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H25
  ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- THE FRAME: `Cert.quiescent_FfnIdeal`'s statement (Defs.lean) at any `F` — Proof.lean cites it at `Bits`:
    `theorem Cert.Proof.claim : Cert.Claim := ⟨Cert.FfnIdeal.Gen.facts, fun m ρ _ => Cert.FfnIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.FfnIdeal.Gen

end
-- ==== Proof.FfnIdeal.Value.lean ====
/- The ideal kernel's result arrays after its run, each named (`run_blocks`), with what each grid point writes back. The text
   is the generated value module's, over the frame of Frame.lean. -/
module

public import proofs.«01_k».proof.Proof.FfnIdeal.Frame
public import Idealize.ShloMosaic.Lib.Pipeline.Value

@[expose] public section

noncomputable section

namespace Cert.FfnIdeal.Value

open Cert.FfnIdeal Cert.FfnIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 19's array: the run's contents for that window after the body (`Gen.outsAt0`: its component 0), read through the window's block. -/
theorem flushed19 (c : Dev nD) (t : Fin cfg0.N) :
    (dats m 0 c).flushed 19 t = (cfg0.win 19).cut (grid0.coords t) ((outsAt0 m c t).1) := by
  show (cfg0.win 19).cut (grid0.coords t) ((dats m 0 c).after 19 t) = _
  rw [after0_19]

/-- … so at a point where case A runs, what its write-back would write is that case's NAMED TERM for the window (`Gen.out0_A_19`: the pieces
    its run found, read back) at the point's memrefs and input blocks, and for an output the case reads back what the point before left (`Gen.outsAt0` at `t - 1`) — the kernel's one case, `Gen.outsAt0` by definition. -/
theorem flushed19_A (c : Dev nD) (t : Fin cfg0.N) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) := by
  simp only [flushed19, outsAt0]

/-- The index map sends distinct grid points to distinct block indices (decided over the 40 points). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S10240x1536.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the run's contents for that window after the body (`Gen.outsAt0`: its component 1), read through the window's block. -/
theorem flushed20 (c : Dev nD) (t : Fin cfg0.N) :
    (dats m 0 c).flushed 20 t = (cfg0.win 20).cut (grid0.coords t) ((outsAt0 m c t).2.1) := by
  show (cfg0.win 20).cut (grid0.coords t) ((dats m 0 c).after 20 t) = _
  rw [after0_20]

/-- … so at a point where case A runs, what its write-back would write is that case's NAMED TERM for the window (`Gen.out0_A_20`: the pieces
    its run found, read back) at the point's memrefs and input blocks, and for an output the case reads back what the point before left (`Gen.outsAt0` at `t - 1`) — the kernel's one case, `Gen.outsAt0` by definition. -/
theorem flushed20_A (c : Dev nD) (t : Fin cfg0.N) :
    (dats m 0 c).flushed 20 t = (cfg0.win 20).cut (grid0.coords t) (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) := by
  simp only [flushed20, outsAt0]

/-- The index map sends distinct grid points to distinct block indices (decided over the 40 points). -/
theorem idx_inj20 : ∀ t t' : Fin cfg0.N, win0_20.index t = win0_20.index t' → t = t' :=
  (by decide +kernel : ∀ t t' : Fin grid0.N, win0_20.index t = win0_20.index t' → t = t')

/-- So two flushing points' blocks share no array index (Lib/Pipeline/Cells.lean `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- An index that no flushing point's block covers keeps output window 20's array contents at region entry. -/
theorem entry20 (c : Dev nD) (i : S40x1x256.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- WHAT POINT `t` WRITES BACK to output window 21's array: the run's contents for that window after the body (`Gen.outsAt0`: its component 2), read through the window's block. -/
theorem flushed21 (c : Dev nD) (t : Fin cfg0.N) :
    (dats m 0 c).flushed 21 t = (cfg0.win 21).cut (grid0.coords t) ((outsAt0 m c t).2.2.1) := by
  show (cfg0.win 21).cut (grid0.coords t) ((dats m 0 c).after 21 t) = _
  rw [after0_21]

/-- … so at a point where case A runs, what its write-back would write is that case's NAMED TERM for the window (`Gen.out0_A_21`: the pieces
    its run found, read back) at the point's memrefs and input blocks, and for an output the case reads back what the point before left (`Gen.outsAt0` at `t - 1`) — the kernel's one case, `Gen.outsAt0` by definition. -/
theorem flushed21_A (c : Dev nD) (t : Fin cfg0.N) :
    (dats m 0 c).flushed 21 t = (cfg0.win 21).cut (grid0.coords t) (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) := by
  simp only [flushed21, outsAt0]

/-- The index map sends distinct grid points to distinct block indices (decided over the 40 points). -/
theorem idx_inj21 : ∀ t t' : Fin cfg0.N, win0_21.index t = win0_21.index t' → t = t' :=
  (by decide +kernel : ∀ t t' : Fin grid0.N, win0_21.index t = win0_21.index t' → t = t')

/-- So two flushing points' blocks share no array index (Lib/Pipeline/Cells.lean `Window.disjoint_blk`). -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- BLOCK `t` OF THE FINAL ARRAY, read back through the window, is what point `t` wrote back (`flushed21`), for every
    point that writes back: no other point's block meets it. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- An index that no flushing point's block covers keeps output window 21's array contents at region entry. -/
theorem entry21 (c : Dev nD) (i : S10240x1536.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

/-- WHAT POINT `t` WRITES BACK to output window 22's array: the run's contents for that window after the body (`Gen.outsAt0`: its component 3), read through the window's block. -/
theorem flushed22 (c : Dev nD) (t : Fin cfg0.N) :
    (dats m 0 c).flushed 22 t = (cfg0.win 22).cut (grid0.coords t) ((outsAt0 m c t).2.2.2.1) := by
  show (cfg0.win 22).cut (grid0.coords t) ((dats m 0 c).after 22 t) = _
  rw [after0_22]

/-- … so at a point where case A runs, what its write-back would write is that case's NAMED TERM for the window (`Gen.out0_A_22`: the pieces
    its run found, read back) at the point's memrefs and input blocks, and for an output the case reads back what the point before left (`Gen.outsAt0` at `t - 1`) — the kernel's one case, `Gen.outsAt0` by definition. -/
theorem flushed22_A (c : Dev nD) (t : Fin cfg0.N) :
    (dats m 0 c).flushed 22 t = (cfg0.win 22).cut (grid0.coords t) (out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) := by
  simp only [flushed22, outsAt0]

/-- The index map sends distinct grid points to distinct block indices (decided over the 40 points). -/
theorem idx_inj22 : ∀ t t' : Fin cfg0.N, win0_22.index t = win0_22.index t' → t = t' :=
  (by decide +kernel : ∀ t t' : Fin grid0.N, win0_22.index t = win0_22.index t' → t = t')

/-- So two flushing points' blocks share no array index (Lib/Pipeline/Cells.lean `Window.disjoint_blk`). -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- BLOCK `t` OF THE FINAL ARRAY, read back through the window, is what point `t` wrote back (`flushed22`), for every
    point that writes back: no other point's block meets it. -/
theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

/-- An index that no flushing point's block covers keeps output window 22's array contents at region entry. -/
theorem entry22 (c : Dev nD) (i : S10240x1536.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

/-- WHAT POINT `t` WRITES BACK to output window 23's array: the run's contents for that window after the body (`Gen.outsAt0`: its component 4), read through the window's block. -/
theorem flushed23 (c : Dev nD) (t : Fin cfg0.N) :
    (dats m 0 c).flushed 23 t = (cfg0.win 23).cut (grid0.coords t) ((outsAt0 m c t).2.2.2.2.1) := by
  show (cfg0.win 23).cut (grid0.coords t) ((dats m 0 c).after 23 t) = _
  rw [after0_23]

/-- … so at a point where case A runs, what its write-back would write is that case's NAMED TERM for the window (`Gen.out0_A_23`: the pieces
    its run found, read back) at the point's memrefs and input blocks, and for an output the case reads back what the point before left (`Gen.outsAt0` at `t - 1`) — the kernel's one case, `Gen.outsAt0` by definition. -/
theorem flushed23_A (c : Dev nD) (t : Fin cfg0.N) :
    (dats m 0 c).flushed 23 t = (cfg0.win 23).cut (grid0.coords t) (out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) := by
  simp only [flushed23, outsAt0]

/-- The index map sends distinct grid points to distinct block indices (decided over the 40 points). -/
theorem idx_inj23 : ∀ t t' : Fin cfg0.N, win0_23.index t = win0_23.index t' → t = t' :=
  (by decide +kernel : ∀ t t' : Fin grid0.N, win0_23.index t = win0_23.index t' → t = t')

/-- So two flushing points' blocks share no array index (Lib/Pipeline/Cells.lean `Window.disjoint_blk`). -/
theorem disjoint23 : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne (idx_inj23 t t' h)

/-- BLOCK `t` OF THE FINAL ARRAY, read back through the window, is what point `t` wrote back (`flushed23`), for every
    point that writes back: no other point's block meets it. -/
theorem blocks23 (c : Dev nD) (t : Fin cfg0.N) (hf : (cfg0.win 23).flush t = true) :
    ((cfg0.win 23).blk t).view.read (Elt F) ((dats m 0 c).arrAt 23 cfg0.N) = (dats m 0 c).flushed 23 t :=
  (dats m 0 c).read_blk_arrAt_eq_flushed 23 disjoint23 cfg0.N t t.isLt hf

/-- An index that no flushing point's block covers keeps output window 23's array contents at region entry. -/
theorem entry23 (c : Dev nD) (i : S40x1x256.Idx) (h : ∀ t : Fin cfg0.N, (cfg0.win 23).flush t = true → i ∉ ((cfg0.win 23).blk t).view.set) :
    (dats m 0 c).arrAt 23 cfg0.N i = V m c (Pipeline.arrRef spec0 23) i := by
  rw [(dats m 0 c).arrAt_apply_of_forall_not_mem 23 cfg0.N i (fun t _ hf => h t hf), A_eq]

/-- WHAT POINT `t` WRITES BACK to output window 24's array: the run's contents for that window after the body (`Gen.outsAt0`: its component 5), read through the window's block. -/
theorem flushed24 (c : Dev nD) (t : Fin cfg0.N) :
    (dats m 0 c).flushed 24 t = (cfg0.win 24).cut (grid0.coords t) ((outsAt0 m c t).2.2.2.2.2.1) := by
  show (cfg0.win 24).cut (grid0.coords t) ((dats m 0 c).after 24 t) = _
  rw [after0_24]

/-- … so at a point where case A runs, what its write-back would write is that case's NAMED TERM for the window (`Gen.out0_A_24`: the pieces
    its run found, read back) at the point's memrefs and input blocks, and for an output the case reads back what the point before left (`Gen.outsAt0` at `t - 1`) — the kernel's one case, `Gen.outsAt0` by definition. -/
theorem flushed24_A (c : Dev nD) (t : Fin cfg0.N) :
    (dats m 0 c).flushed 24 t = (cfg0.win 24).cut (grid0.coords t) (out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) := by
  simp only [flushed24, outsAt0]

/-- The index map sends distinct grid points to distinct block indices (decided over the 40 points). -/
theorem idx_inj24 : ∀ t t' : Fin cfg0.N, win0_24.index t = win0_24.index t' → t = t' :=
  (by decide +kernel : ∀ t t' : Fin grid0.N, win0_24.index t = win0_24.index t' → t = t')

/-- So two flushing points' blocks share no array index (Lib/Pipeline/Cells.lean `Window.disjoint_blk`). -/
theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

/-- BLOCK `t` OF THE FINAL ARRAY, read back through the window, is what point `t` wrote back (`flushed24`), for every
    point that writes back: no other point's block meets it. -/
theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

/-- An index that no flushing point's block covers keeps output window 24's array contents at region entry. -/
theorem entry24 (c : Dev nD) (i : S10240x6144.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

/-- WHAT POINT `t` WRITES BACK to output window 25's array: the run's contents for that window after the body (`Gen.outsAt0`: its component 6), read through the window's block. -/
theorem flushed25 (c : Dev nD) (t : Fin cfg0.N) :
    (dats m 0 c).flushed 25 t = (cfg0.win 25).cut (grid0.coords t) ((outsAt0 m c t).2.2.2.2.2.2) := by
  show (cfg0.win 25).cut (grid0.coords t) ((dats m 0 c).after 25 t) = _
  rw [after0_25]

/-- … so at a point where case A runs, what its write-back would write is that case's NAMED TERM for the window (`Gen.out0_A_25`: the pieces
    its run found, read back) at the point's memrefs and input blocks, and for an output the case reads back what the point before left (`Gen.outsAt0` at `t - 1`) — the kernel's one case, `Gen.outsAt0` by definition. -/
theorem flushed25_A (c : Dev nD) (t : Fin cfg0.N) :
    (dats m 0 c).flushed 25 t = (cfg0.win 25).cut (grid0.coords t) (out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) := by
  simp only [flushed25, outsAt0]

/-- The index map sends distinct grid points to distinct block indices (decided over the 40 points). -/
theorem idx_inj25 : ∀ t t' : Fin cfg0.N, win0_25.index t = win0_25.index t' → t = t' :=
  (by decide +kernel : ∀ t t' : Fin grid0.N, win0_25.index t = win0_25.index t' → t = t')

/-- So two flushing points' blocks share no array index (Lib/Pipeline/Cells.lean `Window.disjoint_blk`). -/
theorem disjoint25 : ∀ t t' : Fin cfg0.N, (cfg0.win 25).flush t = true → (cfg0.win 25).flush t' = true → t ≠ t' →
    Disjoint ((cfg0.win 25).blk t).view.set ((cfg0.win 25).blk t').view.set :=
  fun t t' _ _ hne => (cfg0.win 25).disjoint_blk fun h => hne (idx_inj25 t t' h)

/-- BLOCK `t` OF THE FINAL ARRAY, read back through the window, is what point `t` wrote back (`flushed25`), for every
    point that writes back: no other point's block meets it. -/
theorem blocks25 (c : Dev nD) (t : Fin cfg0.N) (hf : (cfg0.win 25).flush t = true) :
    ((cfg0.win 25).blk t).view.read (Elt F) ((dats m 0 c).arrAt 25 cfg0.N) = (dats m 0 c).flushed 25 t :=
  (dats m 0 c).read_blk_arrAt_eq_flushed 25 disjoint25 cfg0.N t t.isLt hf

/-- An index that no flushing point's block covers keeps output window 25's array contents at region entry. -/
theorem entry25 (c : Dev nD) (i : S40x1x256.Idx) (h : ∀ t : Fin cfg0.N, (cfg0.win 25).flush t = true → i ∉ ((cfg0.win 25).blk t).view.set) :
    (dats m 0 c).arrAt 25 cfg0.N i = V m c (Pipeline.arrRef spec0 25) i := by
  rw [(dats m 0 c).arrAt_apply_of_forall_not_mem 25 cfg0.N i (fun t _ hf => h t hf), A_eq]

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v15_0) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v15_1) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v15_2) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v15_3) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v15_4) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v15_5) = (dats m 0 c).arrAt 24 cfg0.N :=
  (h c).1 24

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v15_6) = (dats m 0 c).arrAt 25 cfg0.N :=
  (h c).1 25

/-- After the frame run, argument `main_arg0` is as launched: input window 1 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: input window 11 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 11).trans (((dats m 0 c).arrAt_in 11 rfl _).trans ((A_eq m c 11).trans (V_main_arg8 m c)))

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: input window 14 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 14).trans (((dats m 0 c).arrAt_in 14 rfl _).trans ((A_eq m c 14).trans (V_main_arg11 m c)))

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v15_0) = (dats m 0 c).arrAt 19 cfg0.N
      ∧ r.2.mem ((c : Thread nD τ).loc main_v15_1) = (dats m 0 c).arrAt 20 cfg0.N
      ∧ r.2.mem ((c : Thread nD τ).loc main_v15_2) = (dats m 0 c).arrAt 21 cfg0.N
      ∧ r.2.mem ((c : Thread nD τ).loc main_v15_3) = (dats m 0 c).arrAt 22 cfg0.N
      ∧ r.2.mem ((c : Thread nD τ).loc main_v15_4) = (dats m 0 c).arrAt 23 cfg0.N
      ∧ r.2.mem ((c : Thread nD τ).loc main_v15_5) = (dats m 0 c).arrAt 24 cfg0.N
      ∧ r.2.mem ((c : Thread nD τ).loc main_v15_6) = (dats m 0 c).arrAt 25 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨post19 m r h c,
      post20 m r h c,
      post21 m r h c,
      post22 m r h c,
      post23 m r h c,
      post24 m r h c,
      post25 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c⟩)
    (run_main m ρ)

end Cert.FfnIdeal.Value

end
-- ==== Proof.FfnRef.Run.lean ====
/- The reference's result arrays after its run, each named (`run_blocks`), with what the one grid point writes back. The
   text is the blockwise part of the generated value module. -/
module

public import proofs.«01_k».proof.Proof.Gen.FfnRefIdeal.Frame
public import Idealize.ShloMosaic.Lib.Pipeline.Value

@[expose] public section

noncomputable section

namespace Cert.FfnRefIdeal.Value

open Cert.FfnRefIdeal Cert.FfnRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 18's array: the body's result for that window (`Gen.out0_18`: its stores
    as pieces over the input windows' blocks), read through the window's block. -/
theorem flushed18 (c : Dev nD) (t : Fin cfg0.N) :
    (dats m 0 c).flushed 18 t = (cfg0.win 18).cut (grid0.coords t) (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 18).cut (grid0.coords t) ((dats m 0 c).after 18 t) = _
  rw [after0_18]

/-- The index map sends distinct grid points to distinct block indices (decided over the 1 point). -/
theorem idx_inj18 : ∀ t t' : Fin cfg0.N, win0_18.index t = win0_18.index t' → t = t' :=
  (by decide +kernel : ∀ t t' : Fin grid0.N, win0_18.index t = win0_18.index t' → t = t')

/-- So two flushing points' blocks share no array index (Lib/Pipeline/Cells.lean `Window.disjoint_blk`). -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- BLOCK `t` OF THE FINAL ARRAY, read back through the window, is what point `t` wrote back (`flushed18`), for every
    point that writes back: no other point's block meets it. -/
theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

/-- An index that no flushing point's block covers keeps output window 18's array contents at region entry. -/
theorem entry18 (c : Dev nD) (i : S10240x1536.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- WHAT POINT `t` WRITES BACK to output window 19's array: the body's result for that window (`Gen.out0_19`: its stores
    as pieces over the input windows' blocks), read through the window's block. -/
theorem flushed19 (c : Dev nD) (t : Fin cfg0.N) :
    (dats m 0 c).flushed 19 t = (cfg0.win 19).cut (grid0.coords t) (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 19).cut (grid0.coords t) ((dats m 0 c).after 19 t) = _
  rw [after0_19]

/-- The index map sends distinct grid points to distinct block indices (decided over the 1 point). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S40x1x256.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- WHAT POINT `t` WRITES BACK to output window 20's array: the body's result for that window (`Gen.out0_20`: its stores
    as pieces over the input windows' blocks), read through the window's block. -/
theorem flushed20 (c : Dev nD) (t : Fin cfg0.N) :
    (dats m 0 c).flushed 20 t = (cfg0.win 20).cut (grid0.coords t) (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 20).cut (grid0.coords t) ((dats m 0 c).after 20 t) = _
  rw [after0_20]

/-- The index map sends distinct grid points to distinct block indices (decided over the 1 point). -/
theorem idx_inj20 : ∀ t t' : Fin cfg0.N, win0_20.index t = win0_20.index t' → t = t' :=
  (by decide +kernel : ∀ t t' : Fin grid0.N, win0_20.index t = win0_20.index t' → t = t')

/-- So two flushing points' blocks share no array index (Lib/Pipeline/Cells.lean `Window.disjoint_blk`). -/
theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

/-- BLOCK `t` OF THE FINAL ARRAY, read back through the window, is what point `t` wrote back (`flushed20`), for every
    point that writes back: no other point's block meets it. -/
theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

/-- An index that no flushing point's block covers keeps output window 20's array contents at region entry. -/
theorem entry20 (c : Dev nD) (i : S10240x1536.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

/-- WHAT POINT `t` WRITES BACK to output window 21's array: the body's result for that window (`Gen.out0_21`: its stores
    as pieces over the input windows' blocks), read through the window's block. -/
theorem flushed21 (c : Dev nD) (t : Fin cfg0.N) :
    (dats m 0 c).flushed 21 t = (cfg0.win 21).cut (grid0.coords t) (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 21).cut (grid0.coords t) ((dats m 0 c).after 21 t) = _
  rw [after0_21]

/-- The index map sends distinct grid points to distinct block indices (decided over the 1 point). -/
theorem idx_inj21 : ∀ t t' : Fin cfg0.N, win0_21.index t = win0_21.index t' → t = t' :=
  (by decide +kernel : ∀ t t' : Fin grid0.N, win0_21.index t = win0_21.index t' → t = t')

/-- So two flushing points' blocks share no array index (Lib/Pipeline/Cells.lean `Window.disjoint_blk`). -/
theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- BLOCK `t` OF THE FINAL ARRAY, read back through the window, is what point `t` wrote back (`flushed21`), for every
    point that writes back: no other point's block meets it. -/
theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

/-- An index that no flushing point's block covers keeps output window 21's array contents at region entry. -/
theorem entry21 (c : Dev nD) (i : S10240x1536.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

/-- WHAT POINT `t` WRITES BACK to output window 22's array: the body's result for that window (`Gen.out0_22`: its stores
    as pieces over the input windows' blocks), read through the window's block. -/
theorem flushed22 (c : Dev nD) (t : Fin cfg0.N) :
    (dats m 0 c).flushed 22 t = (cfg0.win 22).cut (grid0.coords t) (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 22).cut (grid0.coords t) ((dats m 0 c).after 22 t) = _
  rw [after0_22]

/-- The index map sends distinct grid points to distinct block indices (decided over the 1 point). -/
theorem idx_inj22 : ∀ t t' : Fin cfg0.N, win0_22.index t = win0_22.index t' → t = t' :=
  (by decide +kernel : ∀ t t' : Fin grid0.N, win0_22.index t = win0_22.index t' → t = t')

/-- So two flushing points' blocks share no array index (Lib/Pipeline/Cells.lean `Window.disjoint_blk`). -/
theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- BLOCK `t` OF THE FINAL ARRAY, read back through the window, is what point `t` wrote back (`flushed22`), for every
    point that writes back: no other point's block meets it. -/
theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

/-- An index that no flushing point's block covers keeps output window 22's array contents at region entry. -/
theorem entry22 (c : Dev nD) (i : S40x1x256.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

/-- WHAT POINT `t` WRITES BACK to output window 23's array: the body's result for that window (`Gen.out0_23`: its stores
    as pieces over the input windows' blocks), read through the window's block. -/
theorem flushed23 (c : Dev nD) (t : Fin cfg0.N) :
    (dats m 0 c).flushed 23 t = (cfg0.win 23).cut (grid0.coords t) (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 23).cut (grid0.coords t) ((dats m 0 c).after 23 t) = _
  rw [after0_23]

/-- The index map sends distinct grid points to distinct block indices (decided over the 1 point). -/
theorem idx_inj23 : ∀ t t' : Fin cfg0.N, win0_23.index t = win0_23.index t' → t = t' :=
  (by decide +kernel : ∀ t t' : Fin grid0.N, win0_23.index t = win0_23.index t' → t = t')

/-- So two flushing points' blocks share no array index (Lib/Pipeline/Cells.lean `Window.disjoint_blk`). -/
theorem disjoint23 : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne (idx_inj23 t t' h)

/-- BLOCK `t` OF THE FINAL ARRAY, read back through the window, is what point `t` wrote back (`flushed23`), for every
    point that writes back: no other point's block meets it. -/
theorem blocks23 (c : Dev nD) (t : Fin cfg0.N) (hf : (cfg0.win 23).flush t = true) :
    ((cfg0.win 23).blk t).view.read (Elt F) ((dats m 0 c).arrAt 23 cfg0.N) = (dats m 0 c).flushed 23 t :=
  (dats m 0 c).read_blk_arrAt_eq_flushed 23 disjoint23 cfg0.N t t.isLt hf

/-- An index that no flushing point's block covers keeps output window 23's array contents at region entry. -/
theorem entry23 (c : Dev nD) (i : S10240x6144.Idx) (h : ∀ t : Fin cfg0.N, (cfg0.win 23).flush t = true → i ∉ ((cfg0.win 23).blk t).view.set) :
    (dats m 0 c).arrAt 23 cfg0.N i = V m c (Pipeline.arrRef spec0 23) i := by
  rw [(dats m 0 c).arrAt_apply_of_forall_not_mem 23 cfg0.N i (fun t _ hf => h t hf), A_eq]

/-- WHAT POINT `t` WRITES BACK to output window 24's array: the body's result for that window (`Gen.out0_24`: its stores
    as pieces over the input windows' blocks), read through the window's block. -/
theorem flushed24 (c : Dev nD) (t : Fin cfg0.N) :
    (dats m 0 c).flushed 24 t = (cfg0.win 24).cut (grid0.coords t) (out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)) := by
  show (cfg0.win 24).cut (grid0.coords t) ((dats m 0 c).after 24 t) = _
  rw [after0_24]

/-- The index map sends distinct grid points to distinct block indices (decided over the 1 point). -/
theorem idx_inj24 : ∀ t t' : Fin cfg0.N, win0_24.index t = win0_24.index t' → t = t' :=
  (by decide +kernel : ∀ t t' : Fin grid0.N, win0_24.index t = win0_24.index t' → t = t')

/-- So two flushing points' blocks share no array index (Lib/Pipeline/Cells.lean `Window.disjoint_blk`). -/
theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (idx_inj24 t t' h)

/-- BLOCK `t` OF THE FINAL ARRAY, read back through the window, is what point `t` wrote back (`flushed24`), for every
    point that writes back: no other point's block meets it. -/
theorem blocks24 (c : Dev nD) (t : Fin cfg0.N) (hf : (cfg0.win 24).flush t = true) :
    ((cfg0.win 24).blk t).view.read (Elt F) ((dats m 0 c).arrAt 24 cfg0.N) = (dats m 0 c).flushed 24 t :=
  (dats m 0 c).read_blk_arrAt_eq_flushed 24 disjoint24 cfg0.N t t.isLt hf

/-- An index that no flushing point's block covers keeps output window 24's array contents at region entry. -/
theorem entry24 (c : Dev nD) (i : S40x1x256.Idx) (h : ∀ t : Fin cfg0.N, (cfg0.win 24).flush t = true → i ∉ ((cfg0.win 24).blk t).view.set) :
    (dats m 0 c).arrAt 24 cfg0.N i = V m c (Pipeline.arrRef spec0 24) i := by
  rw [(dats m 0 c).arrAt_apply_of_forall_not_mem 24 cfg0.N i (fun t _ hf => h t hf), A_eq]

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v17_0) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v17_1) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v17_2) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v17_3) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v17_4) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v17_5) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v17_6) = (dats m 0 c).arrAt 24 cfg0.N :=
  (h c).1 24

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: input window 11 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v17_0) = (dats m 0 c).arrAt 18 cfg0.N
      ∧ r.2.mem ((c : Thread nD τ).loc main_v17_1) = (dats m 0 c).arrAt 19 cfg0.N
      ∧ r.2.mem ((c : Thread nD τ).loc main_v17_2) = (dats m 0 c).arrAt 20 cfg0.N
      ∧ r.2.mem ((c : Thread nD τ).loc main_v17_3) = (dats m 0 c).arrAt 21 cfg0.N
      ∧ r.2.mem ((c : Thread nD τ).loc main_v17_4) = (dats m 0 c).arrAt 22 cfg0.N
      ∧ r.2.mem ((c : Thread nD τ).loc main_v17_5) = (dats m 0 c).arrAt 23 cfg0.N
      ∧ r.2.mem ((c : Thread nD τ).loc main_v17_6) = (dats m 0 c).arrAt 24 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨post18 m r h c,
      post19 m r h c,
      post20 m r h c,
      post21 m r h c,
      post22 m r h c,
      post23 m r h c,
      post24 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c⟩)
    (run_main m ρ)

end Cert.FfnRefIdeal.Value

end
-- ==== Proof.Rows.lean ====
/- The layer's second half at one token, in plain mathematics over the extended reals: layer
   normalisation, symmetric int8 quantisation of a row, a projection by int8 weights, and GELU. -/
module

public import Idealize.ShloMosaic.Lib.Pointwise

@[expose] public section

noncomputable section

namespace Cert.Rows

open Idealize.ShloMosaic

/-- The row length 1536, as the programs' float constant. -/
def len : EReal := Ideal.ofBits .f32 0x44C00000#32

/-- The constant added to the variance. -/
def eps : EReal := Ideal.ofBits .f32 0x33D6BF95#32

/-- The mean of a row. -/
def mean (v : Fin 1536 → EReal) : EReal := Ideal.div (∑ k, v k) len

/-- The square root of a row's variance plus `eps`. -/
def dev (v : Fin 1536 → EReal) : EReal :=
  Ideal.sqrt (Ideal.div (∑ k, (v k - mean v) * (v k - mean v)) len + eps)

/-- Layer normalisation of a row with gain `g` and offset `b`. -/
def lnorm (v g b : Fin 1536 → EReal) (c : Fin 1536) : EReal :=
  Ideal.div (v c - mean v) (dev v) * g c + b c

/-- The largest absolute value of a row. -/
def amax {n : ℕ} (v : Fin n → EReal) : EReal :=
  Finset.univ.fold max (Ideal.ofBits .f32 0xFF800000#32) fun k => FloatOps.absf (F := Ideal) (φ := .f32) (v k)

/-- The step of the quantisation of a row whose largest absolute value is `a`: a 127th of it, and one
    where the row is zero. -/
def scale (a : EReal) : EReal := if a = 0 then 1 else Ideal.div a (Ideal.ofBits .f32 0x42FE0000#32)

/-- A value divided by the step, rounded to nearest even and kept within ±127: the code as a number. -/
def level (v s : EReal) : EReal :=
  min (Ideal.ofBits .f32 0x42FE0000#32)
    (max (Ideal.ofBits .f32 0xC2FE0000#32) (Ideal.liftRound Ideal.roundHalfEven (Ideal.div v s)))

/-- The code as a byte. -/
def code (v s : EReal) : BitVec 8 := FloatOps.fptosi (F := Ideal) (φ := .f32) 8 (level v s)

/-- A byte as a number. -/
def num (b : BitVec 8) : EReal := ((b.toInt : ℝ) : EReal)

/-- A row of codes times a column of int8 weights, rescaled by the row's step and the column's scale,
    plus the column's bias. -/
def proj {n : ℕ} (a : Fin n → EReal) (s : EReal) (w : Fin n → BitVec 8) (ws bias : EReal) : EReal :=
  (∑ k, a k * num (w k)) * s * ws + bias

/-- GELU, by the error function. -/
def gelu (f : EReal) : EReal :=
  Ideal.ofBits .f32 0x3F000000#32 * f * (1 + Ideal.erf (Ideal.div f (Ideal.ofBits .f32 0x3FB504F3#32)))

end Cert.Rows
-- ==== Proof.KernelRows.lean ====
/- What one block of the kernel computes, payload by payload, read at one of its rows: each value the
   body computes from the values it read, as the plain mathematics of `Rows`. -/
module

public import proofs.«01_k».proof.Proof.Gen.FfnIdeal.Skeleton
public import proofs.«01_k».proof.Proof.Rows

@[expose] public section

noncomputable section

namespace Cert.FfnIdeal.Block

open Idealize.ShloMosaic Idealize.SL.Sem Cert.Rows Cert.FfnIdeal.Gen

/-! ## The two 128-token halves of a block -/

/-- The two halves of a row of 256 put back together are the row. -/
theorem row_halves (x : FVec Ideal S1x256 .f32) (r : Fin 256) (h' : ¬ r.val < 128 → 128 + (r.val - 128) < 256) :
    (if h : r.val < 128 then x (ix2 0 r) else x (ix2 0 ⟨128 + (r.val - 128), h' h⟩)) = x (ix2 0 r) := by
  split
  · rfl
  · exact congrArg (fun i => x (ix2 0 i)) (Fin.ext (show 128 + (r.val - 128) = r.val by omega))

/-- The two halves of a column of 256 put back together are the column. -/
theorem col_halves (x : FVec Ideal S256x1 .f32) (r : Fin 256) (h' : ¬ r.val < 128 → 128 + (r.val - 128) < 256) :
    (if h : r.val < 128 then x (ix2 r 0) else x (ix2 ⟨128 + (r.val - 128), h' h⟩ 0)) = x (ix2 r 0) := by
  split
  · rfl
  · exact congrArg (fun i => x (ix2 i 0)) (Fin.ext (show 128 + (r.val - 128) = r.val by omega))

/-! ## The attention's output projection, the residual and its layer normalisation -/

/-- The layer's input, normalised. -/
theorem pay2 (x : Vec Ideal S256x1536 .bf16) (g b : Vec Ideal S1x1536 .f32) (r : Fin 256) (c : Fin 1536) :
    k0_pay2 x g b (ix2 r c) = lnorm (fun k => x (ix2 r k)) (fun k => g (ix2 0 k)) (fun k => b (ix2 0 k)) c := by
  pointwise [k0_pay2]
  rfl

/-- A token's attention codes, out of the two blocks of 128 tokens in columns. -/
theorem pay3 (x y : Vec Ideal S1x1536x128 .i8) (r : Fin 256) (c : Fin 1536) :
    k0_pay3 x y (ix2 r c)
      = num (if h : r.val < 128 then x (ix3 0 c ⟨r.val, h⟩) else y (ix3 0 c ⟨r.val - 128, by omega⟩)) := by
  pointwise [k0_pay3]
  split <;> rfl

/-- A token's projected attention output plus its normalised input. -/
def resid (xn a : Fin 1536 → EReal) (s : EReal) (w : Fin 1536 → Fin 1536 → BitVec 8) (ws bias : Fin 1536 → EReal)
    (c : Fin 1536) : EReal :=
  proj a s (fun k => w k c) (ws c) (bias c) + xn c

/-- The residual less its mean. -/
theorem pay7 (xn : FVec Ideal S256x1536 .f32) (cc : FVec Ideal S256x1536 .bf16) (cs : FVec Ideal S1x256 .f32)
    (w : Vec Ideal S1536x1536 .i8) (ws bias : Vec Ideal S1x1536 .f32) (r : Fin 256) (c : Fin 1536) :
    k0_pay7 xn cc cs w ws bias (ix2 r c)
      = resid (fun k => xn (ix2 r k)) (fun k => cc (ix2 r k)) (cs (ix2 0 r)) (fun k l => w (ix2 k l))
          (fun k => ws (ix2 0 k)) (fun k => bias (ix2 0 k)) c
        - mean (resid (fun k => xn (ix2 r k)) (fun k => cc (ix2 r k)) (cs (ix2 0 r)) (fun k l => w (ix2 k l))
          (fun k => ws (ix2 0 k)) (fun k => bias (ix2 0 k))) := by
  pointwise [k0_pay7]
  simp only [row_halves]
  rfl

/-- The root of the residual's variance. -/
theorem pay8 (xn : FVec Ideal S256x1536 .f32) (cc : FVec Ideal S256x1536 .bf16) (cs : FVec Ideal S1x256 .f32)
    (w : Vec Ideal S1536x1536 .i8) (ws bias : Vec Ideal S1x1536 .f32) (r : Fin 256) :
    k0_pay8 xn cc cs w ws bias (ix2 r 0)
      = dev (resid (fun k => xn (ix2 r k)) (fun k => cc (ix2 r k)) (cs (ix2 0 r)) (fun k l => w (ix2 k l))
          (fun k => ws (ix2 0 k)) (fun k => bias (ix2 0 k))) := by
  pointwise [k0_pay8]
  simp only [pay7]
  rfl

/-- The residual's layer normalisation, from its centred values and the root of its variance. -/
theorem pay9 (g b : FVec Ideal S1x1536 .f32) (x : FVec Ideal S256x1536 .f32) (s : FVec Ideal S256x1 .f32)
    (r : Fin 256) (c : Fin 1536) :
    k0_pay9 g b x s (ix2 r c) = Ideal.div (x (ix2 r c)) (s (ix2 r 0)) * g (ix2 0 c) + b (ix2 0 c) := by
  pointwise [k0_pay9]

/-! ## The named constant and the integer codes -/

/-- The constant the kernel multiplies by is a 127th. -/
theorem inv_named : Named.named (F := Ideal) FfnIdeal.κ "inv_127" (φ := .f32) 0x3C010204#32 = ((1 / 127 : ℝ) : EReal) :=
  IdealRules.named_const.ideal_named_scalar _ _ _ _ rfl

/-- The float constant 127 is the number. -/
theorem bits127 : Ideal.ofBits .f32 0x42FE0000#32 = ((127 : ℝ) : EReal) := by
  simp [Ideal.ofBits, Ideal.ieee, -EReal.coe_mul]; norm_num

/-- Multiplying by the named constant is dividing by 127. -/
theorem mul_inv (a : EReal) :
    a * Named.named (F := Ideal) FfnIdeal.κ "inv_127" (φ := .f32) 0x3C010204#32
      = Ideal.div a (Ideal.ofBits .f32 0x42FE0000#32) := by
  rw [inv_named, bits127, Ideal.div_coe (by norm_num)]

/-- The step of the first quantisation. -/
theorem pay10 (g b : FVec Ideal S1x1536 .f32) (x : FVec Ideal S256x1536 .f32) (s : FVec Ideal S256x1 .f32)
    (r : Fin 256) :
    k0_pay10 g b x s (ix2 r 0) = scale (amax fun k => k0_pay9 g b x s (ix2 r k)) := by
  pointwise [k0_pay10]
  simp only [mul_inv]
  rfl

/-- The first quantisation's codes, as numbers. -/
theorem pay14 (g b : FVec Ideal S1x1536 .f32) (x : FVec Ideal S256x1536 .f32) (s : FVec Ideal S256x1 .f32)
    (r : Fin 256) (c : Fin 1536) :
    k0_pay14 g b x s (ix2 r c) = level (k0_pay9 g b x s (ix2 r c)) (k0_pay10 g b x s (ix2 r 0)) := by
  pointwise [k0_pay14, k0_pay11]
  rfl

/-- The first quantisation's codes, as bytes. -/
theorem pay12 (g b : FVec Ideal S1x1536 .f32) (x : FVec Ideal S256x1536 .f32) (s : FVec Ideal S256x1 .f32)
    (r : Fin 256) (c : Fin 1536) :
    k0_pay12 g b x s (ix2 r c) = code (k0_pay9 g b x s (ix2 r c)) (k0_pay10 g b x s (ix2 r 0)) := by
  pointwise [k0_pay12, k0_pay11]
  rfl

/-- The first quantisation's steps, laid out as a row. -/
theorem pay13 (g b : FVec Ideal S1x1536 .f32) (x : FVec Ideal S256x1536 .f32) (s : FVec Ideal S256x1 .f32)
    (r : Fin 256) :
    k0_pay13 g b x s (ix3 0 0 r) = k0_pay10 g b x s (ix2 r 0) := by
  pointwise [k0_pay13]
  exact col_halves _ r _

/-! ## One chunk of 512 columns of the inner layer -/

/-- One chunk of the inner layer: the codes times 512 columns of weights, rescaled, biased, through GELU. -/
theorem chunk (s : FVec Ideal S256x1 .f32) (a : FVec Ideal S256x1536 .bf16) (w : Vec Ideal S1536x512 .i8)
    (ws bias : Vec Ideal S1x512 .f32) (r : Fin 256) (c : Fin 512) :
    k0_pay30 s a w ws bias (ix2 r c)
      = gelu (proj (fun k => a (ix2 r k)) (s (ix2 r 0)) (fun k => w (ix2 k c)) (ws (ix2 0 c)) (bias (ix2 0 c))) := by
  pointwise [k0_pay30]
  rfl

/-- The lane-wise maxima over one chunk: each lane's maximum so far against its four columns of the chunk. -/
def lanes (am : FVec Ideal S256x128 .f32) (f : FVec Ideal S256x512 .f32) : FVec Ideal S256x128 .f32 :=
  maximumf (maximumf (maximumf (maximumf am
    (absf (extractStridedSlice S256x128 ![0, 0] f slices_S256x512_o0_0_S256x128)))
    (absf (extractStridedSlice S256x128 ![0, 128] f slices_S256x512_o0_128_S256x128)))
    (absf (extractStridedSlice S256x128 ![0, 256] f slices_S256x512_o0_256_S256x128)))
    (absf (extractStridedSlice S256x128 ![0, 384] f slices_S256x512_o0_384_S256x128))

/-- The second quantisation's step, from the lane-wise maxima before the last chunk and the last chunk. -/
theorem pay62 (am : FVec Ideal S256x128 .f32) (p q : FVec Ideal S256x512 .f32) (ws bias : Vec Ideal S1x512 .f32)
    (r : Fin 256) :
    k0_pay62 am p q ws bias (ix2 r 0)
      = scale (Finset.univ.fold max (Ideal.ofBits .f32 0xFF800000#32)
          fun l => lanes am (k0_pay60 p q ws bias) (ix2 r l)) := by
  have e : k0_pay62 am p q ws bias
      = select (cmpf .oeq (shapeCast S256x1 (multiReduction .maximumf [1] S256 (lanes am (k0_pay60 p q ws bias)) 0xFF800000#32 reduces_S256x128_S256 (.inl rfl) rfl) shapeCasts_S256_S256x1) (broadcast S256x1 (Scalar.ofBits .f32 0x00000000#32)))
          (broadcast S256x1 (Scalar.ofBits .f32 0x3F800000#32))
          (divf (shapeCast S256x1 (multiReduction .maximumf [1] S256 (lanes am (k0_pay60 p q ws bias)) 0xFF800000#32 reduces_S256x128_S256 (.inl rfl) rfl) shapeCasts_S256_S256x1) (broadcast S256x1 (Scalar.ofBits .f32 0x42FE0000#32))) := rfl
  rw [e]
  pointwise
  rfl

/-- The second quantisation's codes of one chunk, as bytes. -/
theorem pay67 (s : FVec Ideal S256x1 .f32) (f : Vec Ideal S256x512 .f32) (r : Fin 256) (c : Fin 512) :
    k0_pay67 s f (ix2 r c) = code (f (ix2 r c)) (s (ix2 r 0)) := by
  pointwise [k0_pay67, k0_pay66]
  rfl

/-- The second quantisation's codes of one chunk, as numbers. -/
theorem pay68 (s : FVec Ideal S256x1 .f32) (f : Vec Ideal S256x512 .f32) (r : Fin 256) (c : Fin 512) :
    k0_pay68 s f (ix2 r c) = level (f (ix2 r c)) (s (ix2 r 0)) := by
  pointwise [k0_pay68, k0_pay66]
  rfl

/-! ## The outer layer -/

/-- The result before quantisation: the second projection plus the residual, normalised. -/
theorem pay102 (h1 : FVec Ideal S256x1536 .f32) (s : FVec Ideal S256x1 .f32) (a : Vec Ideal S256x6144 .bf16)
    (w : Vec Ideal S6144x1536 .i8) (ws bias g b : Vec Ideal S1x1536 .f32) (r : Fin 256) (c : Fin 1536) :
    k0_pay102 h1 s a w ws bias g b (ix2 r c)
      = lnorm (fun l => proj (fun k => a (ix2 r k)) (s (ix2 r 0)) (fun k => w (ix2 k l)) (ws (ix2 0 l)) (bias (ix2 0 l))
          + h1 (ix2 r l)) (fun k => g (ix2 0 k)) (fun k => b (ix2 0 k)) c := by
  pointwise [k0_pay102]
  rfl

/-- The last quantisation's step. -/
theorem pay103 (x : FVec Ideal S256x1536 .f32) (r : Fin 256) :
    k0_pay103 x (ix2 r 0) = scale (amax fun k => x (ix2 r k)) := by
  pointwise [k0_pay103]
  simp only [mul_inv]
  rfl

/-- The last quantisation's codes. -/
theorem pay104 (x : FVec Ideal S256x1536 .f32) (r : Fin 256) (c : Fin 1536) :
    k0_pay104 x (ix2 r c) = code (x (ix2 r c)) (k0_pay103 x (ix2 r 0)) := by
  pointwise [k0_pay104]
  rfl

/-- The last quantisation's steps, laid out as a row. -/
theorem pay105 (x : FVec Ideal S256x1536 .f32) (r : Fin 256) :
    k0_pay1 (k0_pay105 x) (ix3 0 0 r) = k0_pay103 x (ix2 r 0) := by
  pointwise [k0_pay1, k0_pay105]
  exact col_halves _ r _

/-- The second quantisation's steps, laid out as a row. -/
theorem pay65 (am : FVec Ideal S256x128 .f32) (p q : FVec Ideal S256x512 .f32) (ws bias : Vec Ideal S1x512 .f32)
    (r : Fin 256) :
    k0_pay65 (k0_pay63 am p q ws bias) (k0_pay64 am p q ws bias) (ix3 0 0 r) = k0_pay62 am p q ws bias (ix2 r 0) := by
  pointwise [k0_pay65, k0_pay63, k0_pay64]
  exact col_halves _ r _

end Cert.FfnIdeal.Block
-- ==== Proof.TowerDefs.lean ====
/- What one grid point of the kernel computes, as a chain of the body's own payloads over the blocks it
   reads: the scratch that holds the inner layer's output chunk by chunk is written and read back. -/
module

public import Idealize.ShloMosaic.Lib.Pipeline.Value
public import proofs.«01_k».proof.Proof.KernelRows

@[expose] public section

noncomputable section

namespace Cert.FfnIdeal.Block

open Cert.FfnIdeal Cert.FfnIdeal.Gen Idealize.ShloMosaic Idealize.ShloMosaic.TcCoe Idealize.SL.Sem
open Idealize.ShloMosaic.Pipeline (Dat)

/-- What the body reads from its input windows. -/
structure Loads where
  /-- The first 128 tokens' attention codes, a token a column. -/
  ccA : Vec Ideal S1x1536x128 .i8
  /-- The next 128 tokens' attention codes. -/
  ccB : Vec Ideal S1x1536x128 .i8
  /-- The tokens' steps. -/
  cs : Vec Ideal S1x1x256 .f32
  /-- The layer's input. -/
  x : Vec Ideal S256x1536 .bf16
  /-- Gain of the first normalisation. -/
  g0 : Vec Ideal S1x1536 .f32
  /-- Its offset. -/
  b0 : Vec Ideal S1x1536 .f32
  /-- The attention's output weights. -/
  wo : Vec Ideal S1536x1536 .i8
  /-- Their columns' scales. -/
  so : Vec Ideal S1x1536 .f32
  /-- Their bias. -/
  bo : Vec Ideal S1x1536 .f32
  /-- Gain of the second normalisation. -/
  g1 : Vec Ideal S1x1536 .f32
  /-- Its offset. -/
  b1 : Vec Ideal S1x1536 .f32
  /-- The inner layer's weights, 512 columns at a time. -/
  w1 : Fin 12 → Vec Ideal S1536x512 .i8
  /-- Their columns' scales. -/
  s1 : Fin 12 → Vec Ideal S1x512 .f32
  /-- Their bias. -/
  bf1 : Fin 12 → Vec Ideal S1x512 .f32
  /-- The outer layer's weights. -/
  w2 : Vec Ideal S6144x1536 .i8
  /-- Their columns' scales. -/
  s2 : Vec Ideal S1x1536 .f32
  /-- Their bias. -/
  bf2 : Vec Ideal S1x1536 .f32
  /-- Gain of the last normalisation. -/
  g2 : Vec Ideal S1x1536 .f32
  /-- Its offset. -/
  b2 : Vec Ideal S1x1536 .f32

variable (L : Loads)

/-- The input, normalised. -/
def xn : FVec Ideal S256x1536 .f32 := k0_pay2 L.x L.g0 L.b0
/-- The residual less its mean. -/
def cen : FVec Ideal S256x1536 .f32 := k0_pay7 (xn L) (k0_pay3 L.ccA L.ccB) (k0_pay4 L.cs) L.wo L.so L.bo
/-- The root of its variance. -/
def dv : FVec Ideal S256x1 .f32 := k0_pay8 (xn L) (k0_pay3 L.ccA L.ccB) (k0_pay4 L.cs) L.wo L.so L.bo
/-- The attention half's result. -/
def h1 : FVec Ideal S256x1536 .f32 := k0_pay9 (k0_pay5 L.g1) (k0_pay6 L.b1) (cen L) (dv L)
/-- Its quantisation step. -/
def hs : FVec Ideal S256x1 .f32 := k0_pay10 (k0_pay5 L.g1) (k0_pay6 L.b1) (cen L) (dv L)
/-- Its codes as numbers. -/
def hq : FVec Ideal S256x1536 .bf16 := k0_pay14 (k0_pay5 L.g1) (k0_pay6 L.b1) (cen L) (dv L)
/-- One chunk of 512 columns of the inner layer. -/
def ck (j : Fin 12) : FVec Ideal S256x512 .f32 := k0_pay30 (hs L) (hq L) (L.w1 j) (L.s1 j) (L.bf1 j)
/-- The lane-wise maxima over the first eleven chunks. -/
def am : FVec Ideal S256x128 .f32 :=
  lanes (lanes (lanes (lanes (lanes (lanes (lanes (lanes (lanes (lanes (lanes k0_pay15 (ck L 0)) (ck L 1)) (ck L 2)) (ck L 3))
    (ck L 4)) (ck L 5)) (ck L 6)) (ck L 7)) (ck L 8)) (ck L 9)) (ck L 10)
/-- The second quantisation's step. -/
def fs : FVec Ideal S256x1 .f32 := k0_pay62 (am L) (k0_pay58 (hq L) (L.w1 11)) (k0_pay59 (hs L)) (L.s1 11) (L.bf1 11)

/-- Twelve blocks of 512 columns, as the stores that put them in place: the last store first. -/
def tiles {e : EltTy} (P : Fin 12 → S256x512.Idx → Elt Ideal e) : List (View.Piece (Elt Ideal) S256x6144 e) :=
  [⟨Rect.unit (s := S256x6144) ![0, 5632] S256x512.size inb_S256x6144_S256x512_0_5632, P 11⟩,
   ⟨Rect.unit (s := S256x6144) ![0, 5120] S256x512.size inb_S256x6144_S256x512_0_5120, P 10⟩,
   ⟨Rect.unit (s := S256x6144) ![0, 4608] S256x512.size inb_S256x6144_S256x512_0_4608, P 9⟩,
   ⟨Rect.unit (s := S256x6144) ![0, 4096] S256x512.size inb_S256x6144_S256x512_0_4096, P 8⟩,
   ⟨Rect.unit (s := S256x6144) ![0, 3584] S256x512.size inb_S256x6144_S256x512_0_3584, P 7⟩,
   ⟨Rect.unit (s := S256x6144) ![0, 3072] S256x512.size inb_S256x6144_S256x512_0_3072, P 6⟩,
   ⟨Rect.unit (s := S256x6144) ![0, 2560] S256x512.size inb_S256x6144_S256x512_0_2560, P 5⟩,
   ⟨Rect.unit (s := S256x6144) ![0, 2048] S256x512.size inb_S256x6144_S256x512_0_2048, P 4⟩,
   ⟨Rect.unit (s := S256x6144) ![0, 1536] S256x512.size inb_S256x6144_S256x512_0_1536, P 3⟩,
   ⟨Rect.unit (s := S256x6144) ![0, 1024] S256x512.size inb_S256x6144_S256x512_0_1024, P 2⟩,
   ⟨Rect.unit (s := S256x6144) ![0, 512] S256x512.size inb_S256x6144_S256x512_0_512, P 1⟩,
   ⟨Rect.unit (s := S256x6144) ![0, 0] S256x512.size inb_S256x6144_S256x512_0_0, P 0⟩]

/-- The chunks as read back from the scratch. -/
def rb (v : View sig .tc .vmem S256x6144 .f32) : Fin 12 → S256x512.Idx → EReal :=
  ![v.readCov (tiles fun j => shapeCast S256x512 (ck L j) shapeCasts_S256x512_S256x512) (Rect.unit (s := S256x6144) ![0, 0] S256x512.size inb_S256x6144_S256x512_0_0).toLoadRect,
    v.readCov (tiles fun j => shapeCast S256x512 (ck L j) shapeCasts_S256x512_S256x512) (Rect.unit (s := S256x6144) ![0, 512] S256x512.size inb_S256x6144_S256x512_0_512).toLoadRect,
    v.readCov (tiles fun j => shapeCast S256x512 (ck L j) shapeCasts_S256x512_S256x512) (Rect.unit (s := S256x6144) ![0, 1024] S256x512.size inb_S256x6144_S256x512_0_1024).toLoadRect,
    v.readCov (tiles fun j => shapeCast S256x512 (ck L j) shapeCasts_S256x512_S256x512) (Rect.unit (s := S256x6144) ![0, 1536] S256x512.size inb_S256x6144_S256x512_0_1536).toLoadRect,
    v.readCov (tiles fun j => shapeCast S256x512 (ck L j) shapeCasts_S256x512_S256x512) (Rect.unit (s := S256x6144) ![0, 2048] S256x512.size inb_S256x6144_S256x512_0_2048).toLoadRect,
    v.readCov (tiles fun j => shapeCast S256x512 (ck L j) shapeCasts_S256x512_S256x512) (Rect.unit (s := S256x6144) ![0, 2560] S256x512.size inb_S256x6144_S256x512_0_2560).toLoadRect,
    v.readCov (tiles fun j => shapeCast S256x512 (ck L j) shapeCasts_S256x512_S256x512) (Rect.unit (s := S256x6144) ![0, 3072] S256x512.size inb_S256x6144_S256x512_0_3072).toLoadRect,
    v.readCov (tiles fun j => shapeCast S256x512 (ck L j) shapeCasts_S256x512_S256x512) (Rect.unit (s := S256x6144) ![0, 3584] S256x512.size inb_S256x6144_S256x512_0_3584).toLoadRect,
    v.readCov (tiles fun j => shapeCast S256x512 (ck L j) shapeCasts_S256x512_S256x512) (Rect.unit (s := S256x6144) ![0, 4096] S256x512.size inb_S256x6144_S256x512_0_4096).toLoadRect,
    v.readCov (tiles fun j => shapeCast S256x512 (ck L j) shapeCasts_S256x512_S256x512) (Rect.unit (s := S256x6144) ![0, 4608] S256x512.size inb_S256x6144_S256x512_0_4608).toLoadRect,
    v.readCov (tiles fun j => shapeCast S256x512 (ck L j) shapeCasts_S256x512_S256x512) (Rect.unit (s := S256x6144) ![0, 5120] S256x512.size inb_S256x6144_S256x512_0_5120).toLoadRect,
    v.readCov (tiles fun j => shapeCast S256x512 (ck L j) shapeCasts_S256x512_S256x512) (Rect.unit (s := S256x6144) ![0, 5632] S256x512.size inb_S256x6144_S256x512_0_5632).toLoadRect]

/-- The second quantisation's codes as numbers, as read back from the scratch. -/
def qb (v : View sig .tc .vmem S256x6144 .f32) (u : View sig .tc .vmem S256x6144 .bf16) : S256x6144.Idx → EReal :=
  u.readCov (tiles (e := .bf16) fun j => k0_pay68 (fs L) (rb L v j))
    (Rect.unit (s := S256x6144) ![0, 0] S256x6144.size inb_S256x6144_S256x6144_0_0).toLoadRect

/-- The layer's result before quantisation. -/
def h2 (v : View sig .tc .vmem S256x6144 .f32) (u : View sig .tc .vmem S256x6144 .bf16) : FVec Ideal S256x1536 .f32 :=
  k0_pay102 (h1 L) (fs L) (qb L v u) L.w2 L.s2 L.bf2 L.g2 L.b2

end Cert.FfnIdeal.Block
-- ==== Proof.Raw.lean ====
/- What the body reads at one grid point: its loads from the blocks the grid point brings. -/
module

public import proofs.«01_k».proof.Proof.Gen.FfnIdeal.Frame.Runs
public import proofs.«01_k».proof.Proof.TowerDefs

@[expose] public section

noncomputable section

namespace Cert.FfnIdeal.Block

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- What the body reads at grid point `t`. -/
def raw (c : Dev nD) (t : Fin cfg0.N) : Loads where
  ccA := View.readAt (Elt Ideal) (ms0_0 t).view (Rect.unit (s := S1x1536x128) ![0, 0, 0] S1x1536x128.size inb_S1x1536x128_S1x1536x128_0_0_0).toLoadRect ((hs0_0 t).unread (iblk m c 0 t))
  ccB := View.readAt (Elt Ideal) (ms0_1 t).view (Rect.unit (s := S1x1536x128) ![0, 0, 0] S1x1536x128.size inb_S1x1536x128_S1x1536x128_0_0_0).toLoadRect ((hs0_1 t).unread (iblk m c 1 t))
  cs := View.readAt (Elt Ideal) (ms0_2 t).view (Rect.unit (s := S1x1x256) ![0, 0, 0] S1x1x256.size inb_S1x1x256_S1x1x256_0_0_0).toLoadRect ((hs0_2 t).unread (iblk m c 2 t))
  x := View.readAt (Elt Ideal) (ms0_3 t).view (Rect.unit (s := S256x1536) ![0, 0] S256x1536.size inb_S256x1536_S256x1536_0_0).toLoadRect ((hs0_3 t).unread (iblk m c 3 t))
  g0 := View.readAt (Elt Ideal) (ms0_4 t).view (Rect.unit (s := S1x1536) ![0, 0] S1x1536.size inb_S1x1536_S1x1536_0_0).toLoadRect ((hs0_4 t).unread (iblk m c 4 t))
  b0 := View.readAt (Elt Ideal) (ms0_5 t).view (Rect.unit (s := S1x1536) ![0, 0] S1x1536.size inb_S1x1536_S1x1536_0_0).toLoadRect ((hs0_5 t).unread (iblk m c 5 t))
  wo := View.readAt (Elt Ideal) (ms0_6 t).view (Rect.unit (s := S1536x1536) ![0, 0] S1536x1536.size inb_S1536x1536_S1536x1536_0_0).toLoadRect ((hs0_6 t).unread (iblk m c 6 t))
  so := View.readAt (Elt Ideal) (ms0_7 t).view (Rect.unit (s := S1x1536) ![0, 0] S1x1536.size inb_S1x1536_S1x1536_0_0).toLoadRect ((hs0_7 t).unread (iblk m c 7 t))
  bo := View.readAt (Elt Ideal) (ms0_8 t).view (Rect.unit (s := S1x1536) ![0, 0] S1x1536.size inb_S1x1536_S1x1536_0_0).toLoadRect ((hs0_8 t).unread (iblk m c 8 t))
  g1 := View.readAt (Elt Ideal) (ms0_9 t).view (Rect.unit (s := S1x1536) ![0, 0] S1x1536.size inb_S1x1536_S1x1536_0_0).toLoadRect ((hs0_9 t).unread (iblk m c 9 t))
  b1 := View.readAt (Elt Ideal) (ms0_10 t).view (Rect.unit (s := S1x1536) ![0, 0] S1x1536.size inb_S1x1536_S1x1536_0_0).toLoadRect ((hs0_10 t).unread (iblk m c 10 t))
  w1 := ![
    View.readAt (Elt Ideal) (ms0_11 t).view (Rect.unit (s := S1536x6144) ![0, 0] S1536x512.size inb_S1536x6144_S1536x512_0_0).toLoadRect ((hs0_11 t).unread (iblk m c 11 t)),
    View.readAt (Elt Ideal) (ms0_11 t).view (Rect.unit (s := S1536x6144) ![0, 512] S1536x512.size inb_S1536x6144_S1536x512_0_512).toLoadRect ((hs0_11 t).unread (iblk m c 11 t)),
    View.readAt (Elt Ideal) (ms0_11 t).view (Rect.unit (s := S1536x6144) ![0, 1024] S1536x512.size inb_S1536x6144_S1536x512_0_1024).toLoadRect ((hs0_11 t).unread (iblk m c 11 t)),
    View.readAt (Elt Ideal) (ms0_11 t).view (Rect.unit (s := S1536x6144) ![0, 1536] S1536x512.size inb_S1536x6144_S1536x512_0_1536).toLoadRect ((hs0_11 t).unread (iblk m c 11 t)),
    View.readAt (Elt Ideal) (ms0_11 t).view (Rect.unit (s := S1536x6144) ![0, 2048] S1536x512.size inb_S1536x6144_S1536x512_0_2048).toLoadRect ((hs0_11 t).unread (iblk m c 11 t)),
    View.readAt (Elt Ideal) (ms0_11 t).view (Rect.unit (s := S1536x6144) ![0, 2560] S1536x512.size inb_S1536x6144_S1536x512_0_2560).toLoadRect ((hs0_11 t).unread (iblk m c 11 t)),
    View.readAt (Elt Ideal) (ms0_11 t).view (Rect.unit (s := S1536x6144) ![0, 3072] S1536x512.size inb_S1536x6144_S1536x512_0_3072).toLoadRect ((hs0_11 t).unread (iblk m c 11 t)),
    View.readAt (Elt Ideal) (ms0_11 t).view (Rect.unit (s := S1536x6144) ![0, 3584] S1536x512.size inb_S1536x6144_S1536x512_0_3584).toLoadRect ((hs0_11 t).unread (iblk m c 11 t)),
    View.readAt (Elt Ideal) (ms0_11 t).view (Rect.unit (s := S1536x6144) ![0, 4096] S1536x512.size inb_S1536x6144_S1536x512_0_4096).toLoadRect ((hs0_11 t).unread (iblk m c 11 t)),
    View.readAt (Elt Ideal) (ms0_11 t).view (Rect.unit (s := S1536x6144) ![0, 4608] S1536x512.size inb_S1536x6144_S1536x512_0_4608).toLoadRect ((hs0_11 t).unread (iblk m c 11 t)),
    View.readAt (Elt Ideal) (ms0_11 t).view (Rect.unit (s := S1536x6144) ![0, 5120] S1536x512.size inb_S1536x6144_S1536x512_0_5120).toLoadRect ((hs0_11 t).unread (iblk m c 11 t)),
    View.readAt (Elt Ideal) (ms0_11 t).view (Rect.unit (s := S1536x6144) ![0, 5632] S1536x512.size inb_S1536x6144_S1536x512_0_5632).toLoadRect ((hs0_11 t).unread (iblk m c 11 t))]
  s1 := ![
    View.readAt (Elt Ideal) (ms0_12 t).view (Rect.unit (s := S1x6144) ![0, 0] S1x512.size inb_S1x6144_S1x512_0_0).toLoadRect ((hs0_12 t).unread (iblk m c 12 t)),
    View.readAt (Elt Ideal) (ms0_12 t).view (Rect.unit (s := S1x6144) ![0, 512] S1x512.size inb_S1x6144_S1x512_0_512).toLoadRect ((hs0_12 t).unread (iblk m c 12 t)),
    View.readAt (Elt Ideal) (ms0_12 t).view (Rect.unit (s := S1x6144) ![0, 1024] S1x512.size inb_S1x6144_S1x512_0_1024).toLoadRect ((hs0_12 t).unread (iblk m c 12 t)),
    View.readAt (Elt Ideal) (ms0_12 t).view (Rect.unit (s := S1x6144) ![0, 1536] S1x512.size inb_S1x6144_S1x512_0_1536).toLoadRect ((hs0_12 t).unread (iblk m c 12 t)),
    View.readAt (Elt Ideal) (ms0_12 t).view (Rect.unit (s := S1x6144) ![0, 2048] S1x512.size inb_S1x6144_S1x512_0_2048).toLoadRect ((hs0_12 t).unread (iblk m c 12 t)),
    View.readAt (Elt Ideal) (ms0_12 t).view (Rect.unit (s := S1x6144) ![0, 2560] S1x512.size inb_S1x6144_S1x512_0_2560).toLoadRect ((hs0_12 t).unread (iblk m c 12 t)),
    View.readAt (Elt Ideal) (ms0_12 t).view (Rect.unit (s := S1x6144) ![0, 3072] S1x512.size inb_S1x6144_S1x512_0_3072).toLoadRect ((hs0_12 t).unread (iblk m c 12 t)),
    View.readAt (Elt Ideal) (ms0_12 t).view (Rect.unit (s := S1x6144) ![0, 3584] S1x512.size inb_S1x6144_S1x512_0_3584).toLoadRect ((hs0_12 t).unread (iblk m c 12 t)),
    View.readAt (Elt Ideal) (ms0_12 t).view (Rect.unit (s := S1x6144) ![0, 4096] S1x512.size inb_S1x6144_S1x512_0_4096).toLoadRect ((hs0_12 t).unread (iblk m c 12 t)),
    View.readAt (Elt Ideal) (ms0_12 t).view (Rect.unit (s := S1x6144) ![0, 4608] S1x512.size inb_S1x6144_S1x512_0_4608).toLoadRect ((hs0_12 t).unread (iblk m c 12 t)),
    View.readAt (Elt Ideal) (ms0_12 t).view (Rect.unit (s := S1x6144) ![0, 5120] S1x512.size inb_S1x6144_S1x512_0_5120).toLoadRect ((hs0_12 t).unread (iblk m c 12 t)),
    View.readAt (Elt Ideal) (ms0_12 t).view (Rect.unit (s := S1x6144) ![0, 5632] S1x512.size inb_S1x6144_S1x512_0_5632).toLoadRect ((hs0_12 t).unread (iblk m c 12 t))]
  bf1 := ![
    View.readAt (Elt Ideal) (ms0_13 t).view (Rect.unit (s := S1x6144) ![0, 0] S1x512.size inb_S1x6144_S1x512_0_0).toLoadRect ((hs0_13 t).unread (iblk m c 13 t)),
    View.readAt (Elt Ideal) (ms0_13 t).view (Rect.unit (s := S1x6144) ![0, 512] S1x512.size inb_S1x6144_S1x512_0_512).toLoadRect ((hs0_13 t).unread (iblk m c 13 t)),
    View.readAt (Elt Ideal) (ms0_13 t).view (Rect.unit (s := S1x6144) ![0, 1024] S1x512.size inb_S1x6144_S1x512_0_1024).toLoadRect ((hs0_13 t).unread (iblk m c 13 t)),
    View.readAt (Elt Ideal) (ms0_13 t).view (Rect.unit (s := S1x6144) ![0, 1536] S1x512.size inb_S1x6144_S1x512_0_1536).toLoadRect ((hs0_13 t).unread (iblk m c 13 t)),
    View.readAt (Elt Ideal) (ms0_13 t).view (Rect.unit (s := S1x6144) ![0, 2048] S1x512.size inb_S1x6144_S1x512_0_2048).toLoadRect ((hs0_13 t).unread (iblk m c 13 t)),
    View.readAt (Elt Ideal) (ms0_13 t).view (Rect.unit (s := S1x6144) ![0, 2560] S1x512.size inb_S1x6144_S1x512_0_2560).toLoadRect ((hs0_13 t).unread (iblk m c 13 t)),
    View.readAt (Elt Ideal) (ms0_13 t).view (Rect.unit (s := S1x6144) ![0, 3072] S1x512.size inb_S1x6144_S1x512_0_3072).toLoadRect ((hs0_13 t).unread (iblk m c 13 t)),
    View.readAt (Elt Ideal) (ms0_13 t).view (Rect.unit (s := S1x6144) ![0, 3584] S1x512.size inb_S1x6144_S1x512_0_3584).toLoadRect ((hs0_13 t).unread (iblk m c 13 t)),
    View.readAt (Elt Ideal) (ms0_13 t).view (Rect.unit (s := S1x6144) ![0, 4096] S1x512.size inb_S1x6144_S1x512_0_4096).toLoadRect ((hs0_13 t).unread (iblk m c 13 t)),
    View.readAt (Elt Ideal) (ms0_13 t).view (Rect.unit (s := S1x6144) ![0, 4608] S1x512.size inb_S1x6144_S1x512_0_4608).toLoadRect ((hs0_13 t).unread (iblk m c 13 t)),
    View.readAt (Elt Ideal) (ms0_13 t).view (Rect.unit (s := S1x6144) ![0, 5120] S1x512.size inb_S1x6144_S1x512_0_5120).toLoadRect ((hs0_13 t).unread (iblk m c 13 t)),
    View.readAt (Elt Ideal) (ms0_13 t).view (Rect.unit (s := S1x6144) ![0, 5632] S1x512.size inb_S1x6144_S1x512_0_5632).toLoadRect ((hs0_13 t).unread (iblk m c 13 t))]
  w2 := View.readAt (Elt Ideal) (ms0_14 t).view (Rect.unit (s := S6144x1536) ![0, 0] S6144x1536.size inb_S6144x1536_S6144x1536_0_0).toLoadRect ((hs0_14 t).unread (iblk m c 14 t))
  s2 := View.readAt (Elt Ideal) (ms0_15 t).view (Rect.unit (s := S1x1536) ![0, 0] S1x1536.size inb_S1x1536_S1x1536_0_0).toLoadRect ((hs0_15 t).unread (iblk m c 15 t))
  bf2 := View.readAt (Elt Ideal) (ms0_16 t).view (Rect.unit (s := S1x1536) ![0, 0] S1x1536.size inb_S1x1536_S1x1536_0_0).toLoadRect ((hs0_16 t).unread (iblk m c 16 t))
  g2 := View.readAt (Elt Ideal) (ms0_17 t).view (Rect.unit (s := S1x1536) ![0, 0] S1x1536.size inb_S1x1536_S1x1536_0_0).toLoadRect ((hs0_17 t).unread (iblk m c 17 t))
  b2 := View.readAt (Elt Ideal) (ms0_18 t).view (Rect.unit (s := S1x1536) ![0, 0] S1x1536.size inb_S1x1536_S1x1536_0_0).toLoadRect ((hs0_18 t).unread (iblk m c 18 t))

end Cert.FfnIdeal.Block
-- ==== Proof.Words.lean ====
/- What the kernel body's intermediate values are, one after the other. -/
module

public import proofs.«01_k».proof.Proof.FfnIdeal.RunA
public import proofs.«01_k».proof.Proof.Raw

@[expose] public section

set_option maxRecDepth 16384

noncomputable section

namespace Cert.FfnIdeal.Block

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- The normalised input. -/
theorem word_v26 (c : Dev nD) (t : Fin cfg0.N) :
    kernelRun0_A.sl.v26 (F := Ideal) c (ms0_3 t) (hs0_3 t) (ms0_4 t) (hs0_4 t) (ms0_5 t) (hs0_5 t) (iblk m c 3 t) (iblk m c 4 t) (iblk m c 5 t)
      = xn (raw m c t) := by
  simp only [kernelRun0_A.sl.v26, kernelRun0_A.sl.v24, kernelRun0_A.sl.v22, kernelRun0_A.sl.v12, kernelRun0_A.sl.v2, kernelRun0_A.sl.v1, kernelRun0_A.sl.v11, kernelRun0_A.sl.v10, kernelRun0_A.sl.v8, kernelRun0_A.sl.v7, kernelRun0_A.sl.v9, kernelRun0_A.sl.cst_5, kernelRun0_A.sl.v21, kernelRun0_A.sl.v20, kernelRun0_A.sl.v19, kernelRun0_A.sl.v17, kernelRun0_A.sl.v15, kernelRun0_A.sl.v14, kernelRun0_A.sl.v13, kernelRun0_A.sl.v18, kernelRun0_A.sl.cst_8, kernelRun0_A.sl.v23, kernelRun0_A.sl.v4, kernelRun0_A.sl.v25, kernelRun0_A.sl.v6]
  rfl

/-- The attention codes of the 256 tokens, a token a row. -/
theorem word_v36 (c : Dev nD) (t : Fin cfg0.N) :
    kernelRun0_A.sl.v36 (F := Ideal) c (ms0_0 t) (hs0_0 t) (ms0_1 t) (hs0_1 t) (iblk m c 0 t) (iblk m c 1 t)
      = k0_pay3 (raw m c t).ccA (raw m c t).ccB := by
  simp only [kernelRun0_A.sl.v36, kernelRun0_A.sl.v35, kernelRun0_A.sl.v30, kernelRun0_A.sl.v29, kernelRun0_A.sl.v28, kernelRun0_A.sl.v34, kernelRun0_A.sl.v33, kernelRun0_A.sl.v32]
  rfl

/-- Their steps. -/
theorem word_v38 (c : Dev nD) (t : Fin cfg0.N) :
    kernelRun0_A.sl.v38 (F := Ideal) c (ms0_2 t) (hs0_2 t) (iblk m c 2 t)
      = k0_pay4 (raw m c t).cs := by
  simp only [kernelRun0_A.sl.v38]
  rfl

/-- The gain of the second normalisation. -/
theorem word_v66 (c : Dev nD) (t : Fin cfg0.N) :
    kernelRun0_A.sl.v66 (F := Ideal) c (ms0_9 t) (hs0_9 t) (iblk m c 9 t)
      = k0_pay5 (raw m c t).g1 := by
  simp only [kernelRun0_A.sl.v66]
  rfl

/-- Its offset. -/
theorem word_v68 (c : Dev nD) (t : Fin cfg0.N) :
    kernelRun0_A.sl.v68 (F := Ideal) c (ms0_10 t) (hs0_10 t) (iblk m c 10 t)
      = k0_pay6 (raw m c t).b1 := by
  simp only [kernelRun0_A.sl.v68]
  rfl

/-- The residual less its mean. -/
theorem word_v74 (c : Dev nD) (t : Fin cfg0.N) :
    kernelRun0_A.sl.v74 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (iblk m c 7 t) (iblk m c 8 t)
      = cen (raw m c t) := by
  simp only [kernelRun0_A.sl.v74, kernelRun0_A.sl.v64, kernelRun0_A.sl.v63, kernelRun0_A.sl.v59, kernelRun0_A.sl.v55, kernelRun0_A.sl.v53, kernelRun0_A.sl.v52, kernelRun0_A.sl.v51, kernelRun0_A.sl.cst_20, kernelRun0_A.sl.v54, kernelRun0_A.sl.v49, kernelRun0_A.sl.v43, kernelRun0_A.sl.v42, kernelRun0_A.sl.v41, kernelRun0_A.sl.v40, kernelRun0_A.sl.v39, kernelRun0_A.sl.v48, kernelRun0_A.sl.v47, kernelRun0_A.sl.v46, kernelRun0_A.sl.v45, kernelRun0_A.sl.v44, kernelRun0_A.sl.v58, kernelRun0_A.sl.v57, kernelRun0_A.sl.v62, kernelRun0_A.sl.v61, kernelRun0_A.sl.v73, kernelRun0_A.sl.v72, kernelRun0_A.sl.v70, kernelRun0_A.sl.v69, kernelRun0_A.sl.v9, kernelRun0_A.sl.cst_5, word_v36 m c t, word_v38 m c t, word_v26 m c t]
  rfl

/-- The root of its variance. -/
theorem word_v82 (c : Dev nD) (t : Fin cfg0.N) :
    kernelRun0_A.sl.v82 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (iblk m c 7 t) (iblk m c 8 t)
      = dv (raw m c t) := by
  simp only [kernelRun0_A.sl.v82, kernelRun0_A.sl.v81, kernelRun0_A.sl.v79, kernelRun0_A.sl.v77, kernelRun0_A.sl.v76, kernelRun0_A.sl.v75, kernelRun0_A.sl.v9, kernelRun0_A.sl.cst_5, kernelRun0_A.sl.v18, kernelRun0_A.sl.cst_8, word_v74 m c t]
  rfl

/-- The attention half's result. -/
theorem word_r (c : Dev nD) (t : Fin cfg0.N) :
    kernelRun0_A.sl.r (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) (iblk m c 9 t) (iblk m c 10 t)
      = h1 (raw m c t) := by
  simp only [kernelRun0_A.sl.r, word_v66 m c t, word_v68 m c t, word_v74 m c t, word_v82 m c t]
  rfl

/-- Its step. -/
theorem word_r_1 (c : Dev nD) (t : Fin cfg0.N) :
    kernelRun0_A.sl.r_1 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) (iblk m c 9 t) (iblk m c 10 t)
      = hs (raw m c t) := by
  simp only [kernelRun0_A.sl.r_1, word_v66 m c t, word_v68 m c t, word_v74 m c t, word_v82 m c t]
  rfl

/-- Its codes as numbers. -/
theorem word_r_2 (c : Dev nD) (t : Fin cfg0.N) :
    kernelRun0_A.sl.r_2 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) (iblk m c 9 t) (iblk m c 10 t)
      = hq (raw m c t) := by
  simp only [kernelRun0_A.sl.r_2, word_v66 m c t, word_v68 m c t, word_v74 m c t, word_v82 m c t]
  rfl

/-- Chunk 0 of the inner layer. -/
theorem word_v143 (c : Dev nD) (t : Fin cfg0.N) :
    kernelRun0_A.sl.v143 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = ck (raw m c t) 0 := by
  simp only [kernelRun0_A.sl.v143, kernelRun0_A.sl.v137, kernelRun0_A.sl.v136, kernelRun0_A.sl.cst_53, kernelRun0_A.sl.v135, kernelRun0_A.sl.v131, kernelRun0_A.sl.v127, kernelRun0_A.sl.r_3, kernelRun0_A.sl.v126, kernelRun0_A.sl.v130, kernelRun0_A.sl.v129, kernelRun0_A.sl.v134, kernelRun0_A.sl.v133, kernelRun0_A.sl.v142, kernelRun0_A.sl.v141, kernelRun0_A.sl.cst_55, kernelRun0_A.sl.v140, kernelRun0_A.sl.v139, kernelRun0_A.sl.v138, kernelRun0_A.sl.cst_54, word_v66 m c t, word_v68 m c t, word_v74 m c t, word_v82 m c t, word_r_1 m c t]
  rfl

/-- The lane-wise maxima after chunk 0. -/
theorem word_v158 (c : Dev nD) (t : Fin cfg0.N) :
    kernelRun0_A.sl.v158 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = lanes k0_pay15 (ck (raw m c t) 0) := by
  simp only [kernelRun0_A.sl.v158, kernelRun0_A.sl.v155, kernelRun0_A.sl.v152, kernelRun0_A.sl.v149, kernelRun0_A.sl.v148, kernelRun0_A.sl.v147, kernelRun0_A.sl.v151, kernelRun0_A.sl.v150, kernelRun0_A.sl.v154, kernelRun0_A.sl.v153, kernelRun0_A.sl.v157, kernelRun0_A.sl.v156, word_v143 m c t]
  rfl

/-- Chunk 1 of the inner layer. -/
theorem word_v179 (c : Dev nD) (t : Fin cfg0.N) :
    kernelRun0_A.sl.v179 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = ck (raw m c t) 1 := by
  simp only [kernelRun0_A.sl.v179, kernelRun0_A.sl.v173, kernelRun0_A.sl.v136, kernelRun0_A.sl.cst_53, kernelRun0_A.sl.v171, kernelRun0_A.sl.v167, kernelRun0_A.sl.v163, kernelRun0_A.sl.v161, kernelRun0_A.sl.v160, kernelRun0_A.sl.cst_59, kernelRun0_A.sl.v126, kernelRun0_A.sl.v166, kernelRun0_A.sl.v165, kernelRun0_A.sl.v170, kernelRun0_A.sl.v169, kernelRun0_A.sl.r_4, kernelRun0_A.sl.v178, kernelRun0_A.sl.v141, kernelRun0_A.sl.cst_55, kernelRun0_A.sl.v176, kernelRun0_A.sl.v175, kernelRun0_A.sl.v138, kernelRun0_A.sl.cst_54, word_r_2 m c t, word_r_1 m c t]
  unfold ck
  generalize hs (raw m c t) = a
  generalize hq (raw m c t) = b
  rfl

/-- The lane-wise maxima after chunk 1. -/
theorem word_v194 (c : Dev nD) (t : Fin cfg0.N) :
    kernelRun0_A.sl.v194 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = lanes (lanes k0_pay15 (ck (raw m c t) 0)) (ck (raw m c t) 1) := by
  simp only [kernelRun0_A.sl.v194, kernelRun0_A.sl.v191, kernelRun0_A.sl.v188, kernelRun0_A.sl.v185, kernelRun0_A.sl.v184, kernelRun0_A.sl.v183, kernelRun0_A.sl.v187, kernelRun0_A.sl.v186, kernelRun0_A.sl.v190, kernelRun0_A.sl.v189, kernelRun0_A.sl.v193, kernelRun0_A.sl.v192, word_v158 m c t, word_v179 m c t]
  generalize ck (raw m c t) 1 = b
  generalize (lanes k0_pay15 (ck (raw m c t) 0)) = a
  rfl

/-- Chunk 2 of the inner layer. -/
theorem word_v215 (c : Dev nD) (t : Fin cfg0.N) :
    kernelRun0_A.sl.v215 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = ck (raw m c t) 2 := by
  simp only [kernelRun0_A.sl.v215, kernelRun0_A.sl.v209, kernelRun0_A.sl.v136, kernelRun0_A.sl.cst_53, kernelRun0_A.sl.v207, kernelRun0_A.sl.v203, kernelRun0_A.sl.v199, kernelRun0_A.sl.v197, kernelRun0_A.sl.v196, kernelRun0_A.sl.cst_59, kernelRun0_A.sl.v126, kernelRun0_A.sl.v202, kernelRun0_A.sl.v201, kernelRun0_A.sl.v206, kernelRun0_A.sl.v205, kernelRun0_A.sl.v214, kernelRun0_A.sl.v141, kernelRun0_A.sl.cst_55, kernelRun0_A.sl.v212, kernelRun0_A.sl.v211, kernelRun0_A.sl.v138, kernelRun0_A.sl.cst_54, word_r_2 m c t, word_r_1 m c t]
  unfold ck
  generalize hs (raw m c t) = a
  generalize hq (raw m c t) = b
  rfl

/-- The lane-wise maxima after chunk 2. -/
theorem word_v230 (c : Dev nD) (t : Fin cfg0.N) :
    kernelRun0_A.sl.v230 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = lanes (lanes (lanes k0_pay15 (ck (raw m c t) 0)) (ck (raw m c t) 1)) (ck (raw m c t) 2) := by
  simp only [kernelRun0_A.sl.v230, kernelRun0_A.sl.v227, kernelRun0_A.sl.v224, kernelRun0_A.sl.v221, kernelRun0_A.sl.v220, kernelRun0_A.sl.v219, kernelRun0_A.sl.v223, kernelRun0_A.sl.v222, kernelRun0_A.sl.v226, kernelRun0_A.sl.v225, kernelRun0_A.sl.v229, kernelRun0_A.sl.v228, word_v194 m c t, word_v215 m c t]
  generalize ck (raw m c t) 2 = b
  generalize (lanes (lanes k0_pay15 (ck (raw m c t) 0)) (ck (raw m c t) 1)) = a
  rfl

/-- Chunk 3 of the inner layer. -/
theorem word_v251 (c : Dev nD) (t : Fin cfg0.N) :
    kernelRun0_A.sl.v251 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = ck (raw m c t) 3 := by
  simp only [kernelRun0_A.sl.v251, kernelRun0_A.sl.v245, kernelRun0_A.sl.v136, kernelRun0_A.sl.cst_53, kernelRun0_A.sl.v243, kernelRun0_A.sl.v239, kernelRun0_A.sl.v235, kernelRun0_A.sl.v233, kernelRun0_A.sl.v232, kernelRun0_A.sl.cst_59, kernelRun0_A.sl.v126, kernelRun0_A.sl.v238, kernelRun0_A.sl.v237, kernelRun0_A.sl.v242, kernelRun0_A.sl.v241, kernelRun0_A.sl.v250, kernelRun0_A.sl.v141, kernelRun0_A.sl.cst_55, kernelRun0_A.sl.v248, kernelRun0_A.sl.v247, kernelRun0_A.sl.v138, kernelRun0_A.sl.cst_54, word_r_2 m c t, word_r_1 m c t]
  unfold ck
  generalize hs (raw m c t) = a
  generalize hq (raw m c t) = b
  rfl

/-- The lane-wise maxima after chunk 3. -/
theorem word_v266 (c : Dev nD) (t : Fin cfg0.N) :
    kernelRun0_A.sl.v266 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = lanes (lanes (lanes (lanes k0_pay15 (ck (raw m c t) 0)) (ck (raw m c t) 1)) (ck (raw m c t) 2)) (ck (raw m c t) 3) := by
  simp only [kernelRun0_A.sl.v266, kernelRun0_A.sl.v263, kernelRun0_A.sl.v260, kernelRun0_A.sl.v257, kernelRun0_A.sl.v256, kernelRun0_A.sl.v255, kernelRun0_A.sl.v259, kernelRun0_A.sl.v258, kernelRun0_A.sl.v262, kernelRun0_A.sl.v261, kernelRun0_A.sl.v265, kernelRun0_A.sl.v264, word_v230 m c t, word_v251 m c t]
  generalize ck (raw m c t) 3 = b
  generalize (lanes (lanes (lanes k0_pay15 (ck (raw m c t) 0)) (ck (raw m c t) 1)) (ck (raw m c t) 2)) = a
  rfl

/-- Chunk 4 of the inner layer. -/
theorem word_v287 (c : Dev nD) (t : Fin cfg0.N) :
    kernelRun0_A.sl.v287 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = ck (raw m c t) 4 := by
  simp only [kernelRun0_A.sl.v287, kernelRun0_A.sl.v281, kernelRun0_A.sl.v136, kernelRun0_A.sl.cst_53, kernelRun0_A.sl.v279, kernelRun0_A.sl.v275, kernelRun0_A.sl.v271, kernelRun0_A.sl.v269, kernelRun0_A.sl.v268, kernelRun0_A.sl.cst_59, kernelRun0_A.sl.v126, kernelRun0_A.sl.v274, kernelRun0_A.sl.v273, kernelRun0_A.sl.v278, kernelRun0_A.sl.v277, kernelRun0_A.sl.v286, kernelRun0_A.sl.v141, kernelRun0_A.sl.cst_55, kernelRun0_A.sl.v284, kernelRun0_A.sl.v283, kernelRun0_A.sl.v138, kernelRun0_A.sl.cst_54, word_r_2 m c t, word_r_1 m c t]
  unfold ck
  generalize hs (raw m c t) = a
  generalize hq (raw m c t) = b
  rfl

/-- The lane-wise maxima after chunk 4. -/
theorem word_v302 (c : Dev nD) (t : Fin cfg0.N) :
    kernelRun0_A.sl.v302 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = lanes (lanes (lanes (lanes (lanes k0_pay15 (ck (raw m c t) 0)) (ck (raw m c t) 1)) (ck (raw m c t) 2)) (ck (raw m c t) 3)) (ck (raw m c t) 4) := by
  simp only [kernelRun0_A.sl.v302, kernelRun0_A.sl.v299, kernelRun0_A.sl.v296, kernelRun0_A.sl.v293, kernelRun0_A.sl.v292, kernelRun0_A.sl.v291, kernelRun0_A.sl.v295, kernelRun0_A.sl.v294, kernelRun0_A.sl.v298, kernelRun0_A.sl.v297, kernelRun0_A.sl.v301, kernelRun0_A.sl.v300, word_v266 m c t, word_v287 m c t]
  generalize ck (raw m c t) 4 = b
  generalize (lanes (lanes (lanes (lanes k0_pay15 (ck (raw m c t) 0)) (ck (raw m c t) 1)) (ck (raw m c t) 2)) (ck (raw m c t) 3)) = a
  rfl

/-- Chunk 5 of the inner layer. -/
theorem word_v323 (c : Dev nD) (t : Fin cfg0.N) :
    kernelRun0_A.sl.v323 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = ck (raw m c t) 5 := by
  simp only [kernelRun0_A.sl.v323, kernelRun0_A.sl.v317, kernelRun0_A.sl.v136, kernelRun0_A.sl.cst_53, kernelRun0_A.sl.v315, kernelRun0_A.sl.v311, kernelRun0_A.sl.v307, kernelRun0_A.sl.v305, kernelRun0_A.sl.v304, kernelRun0_A.sl.cst_59, kernelRun0_A.sl.v126, kernelRun0_A.sl.v310, kernelRun0_A.sl.v309, kernelRun0_A.sl.v314, kernelRun0_A.sl.v313, kernelRun0_A.sl.v322, kernelRun0_A.sl.v141, kernelRun0_A.sl.cst_55, kernelRun0_A.sl.v320, kernelRun0_A.sl.v319, kernelRun0_A.sl.v138, kernelRun0_A.sl.cst_54, word_r_2 m c t, word_r_1 m c t]
  unfold ck
  generalize hs (raw m c t) = a
  generalize hq (raw m c t) = b
  rfl

/-- The lane-wise maxima after chunk 5. -/
theorem word_v338 (c : Dev nD) (t : Fin cfg0.N) :
    kernelRun0_A.sl.v338 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = lanes (lanes (lanes (lanes (lanes (lanes k0_pay15 (ck (raw m c t) 0)) (ck (raw m c t) 1)) (ck (raw m c t) 2)) (ck (raw m c t) 3)) (ck (raw m c t) 4)) (ck (raw m c t) 5) := by
  simp only [kernelRun0_A.sl.v338, kernelRun0_A.sl.v335, kernelRun0_A.sl.v332, kernelRun0_A.sl.v329, kernelRun0_A.sl.v328, kernelRun0_A.sl.v327, kernelRun0_A.sl.v331, kernelRun0_A.sl.v330, kernelRun0_A.sl.v334, kernelRun0_A.sl.v333, kernelRun0_A.sl.v337, kernelRun0_A.sl.v336, word_v302 m c t, word_v323 m c t]
  generalize ck (raw m c t) 5 = b
  generalize (lanes (lanes (lanes (lanes (lanes k0_pay15 (ck (raw m c t) 0)) (ck (raw m c t) 1)) (ck (raw m c t) 2)) (ck (raw m c t) 3)) (ck (raw m c t) 4)) = a
  rfl

/-- Chunk 6 of the inner layer. -/
theorem word_v359 (c : Dev nD) (t : Fin cfg0.N) :
    kernelRun0_A.sl.v359 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = ck (raw m c t) 6 := by
  simp only [kernelRun0_A.sl.v359, kernelRun0_A.sl.v353, kernelRun0_A.sl.v136, kernelRun0_A.sl.cst_53, kernelRun0_A.sl.v351, kernelRun0_A.sl.v347, kernelRun0_A.sl.v343, kernelRun0_A.sl.v341, kernelRun0_A.sl.v340, kernelRun0_A.sl.cst_59, kernelRun0_A.sl.v126, kernelRun0_A.sl.v346, kernelRun0_A.sl.v345, kernelRun0_A.sl.v350, kernelRun0_A.sl.v349, kernelRun0_A.sl.v358, kernelRun0_A.sl.v141, kernelRun0_A.sl.cst_55, kernelRun0_A.sl.v356, kernelRun0_A.sl.v355, kernelRun0_A.sl.v138, kernelRun0_A.sl.cst_54, word_r_2 m c t, word_r_1 m c t]
  unfold ck
  generalize hs (raw m c t) = a
  generalize hq (raw m c t) = b
  rfl

/-- The lane-wise maxima after chunk 6. -/
theorem word_v374 (c : Dev nD) (t : Fin cfg0.N) :
    kernelRun0_A.sl.v374 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = lanes (lanes (lanes (lanes (lanes (lanes (lanes k0_pay15 (ck (raw m c t) 0)) (ck (raw m c t) 1)) (ck (raw m c t) 2)) (ck (raw m c t) 3)) (ck (raw m c t) 4)) (ck (raw m c t) 5)) (ck (raw m c t) 6) := by
  simp only [kernelRun0_A.sl.v374, kernelRun0_A.sl.v371, kernelRun0_A.sl.v368, kernelRun0_A.sl.v365, kernelRun0_A.sl.v364, kernelRun0_A.sl.v363, kernelRun0_A.sl.v367, kernelRun0_A.sl.v366, kernelRun0_A.sl.v370, kernelRun0_A.sl.v369, kernelRun0_A.sl.v373, kernelRun0_A.sl.v372, word_v338 m c t, word_v359 m c t]
  generalize ck (raw m c t) 6 = b
  generalize (lanes (lanes (lanes (lanes (lanes (lanes k0_pay15 (ck (raw m c t) 0)) (ck (raw m c t) 1)) (ck (raw m c t) 2)) (ck (raw m c t) 3)) (ck (raw m c t) 4)) (ck (raw m c t) 5)) = a
  rfl

/-- Chunk 7 of the inner layer. -/
theorem word_v395 (c : Dev nD) (t : Fin cfg0.N) :
    kernelRun0_A.sl.v395 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = ck (raw m c t) 7 := by
  simp only [kernelRun0_A.sl.v395, kernelRun0_A.sl.v389, kernelRun0_A.sl.v136, kernelRun0_A.sl.cst_53, kernelRun0_A.sl.v387, kernelRun0_A.sl.v383, kernelRun0_A.sl.v379, kernelRun0_A.sl.v377, kernelRun0_A.sl.v376, kernelRun0_A.sl.cst_59, kernelRun0_A.sl.v126, kernelRun0_A.sl.v382, kernelRun0_A.sl.v381, kernelRun0_A.sl.v386, kernelRun0_A.sl.v385, kernelRun0_A.sl.v394, kernelRun0_A.sl.v141, kernelRun0_A.sl.cst_55, kernelRun0_A.sl.v392, kernelRun0_A.sl.v391, kernelRun0_A.sl.v138, kernelRun0_A.sl.cst_54, word_r_2 m c t, word_r_1 m c t]
  unfold ck
  generalize hs (raw m c t) = a
  generalize hq (raw m c t) = b
  rfl

/-- The lane-wise maxima after chunk 7. -/
theorem word_v410 (c : Dev nD) (t : Fin cfg0.N) :
    kernelRun0_A.sl.v410 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = lanes (lanes (lanes (lanes (lanes (lanes (lanes (lanes k0_pay15 (ck (raw m c t) 0)) (ck (raw m c t) 1)) (ck (raw m c t) 2)) (ck (raw m c t) 3)) (ck (raw m c t) 4)) (ck (raw m c t) 5)) (ck (raw m c t) 6)) (ck (raw m c t) 7) := by
  simp only [kernelRun0_A.sl.v410, kernelRun0_A.sl.v407, kernelRun0_A.sl.v404, kernelRun0_A.sl.v401, kernelRun0_A.sl.v400, kernelRun0_A.sl.v399, kernelRun0_A.sl.v403, kernelRun0_A.sl.v402, kernelRun0_A.sl.v406, kernelRun0_A.sl.v405, kernelRun0_A.sl.v409, kernelRun0_A.sl.v408, word_v374 m c t, word_v395 m c t]
  generalize ck (raw m c t) 7 = b
  generalize (lanes (lanes (lanes (lanes (lanes (lanes (lanes k0_pay15 (ck (raw m c t) 0)) (ck (raw m c t) 1)) (ck (raw m c t) 2)) (ck (raw m c t) 3)) (ck (raw m c t) 4)) (ck (raw m c t) 5)) (ck (raw m c t) 6)) = a
  rfl

/-- Chunk 8 of the inner layer. -/
theorem word_v431 (c : Dev nD) (t : Fin cfg0.N) :
    kernelRun0_A.sl.v431 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = ck (raw m c t) 8 := by
  simp only [kernelRun0_A.sl.v431, kernelRun0_A.sl.v425, kernelRun0_A.sl.v136, kernelRun0_A.sl.cst_53, kernelRun0_A.sl.v423, kernelRun0_A.sl.v419, kernelRun0_A.sl.v415, kernelRun0_A.sl.v413, kernelRun0_A.sl.v412, kernelRun0_A.sl.cst_59, kernelRun0_A.sl.v126, kernelRun0_A.sl.v418, kernelRun0_A.sl.v417, kernelRun0_A.sl.v422, kernelRun0_A.sl.v421, kernelRun0_A.sl.v430, kernelRun0_A.sl.v141, kernelRun0_A.sl.cst_55, kernelRun0_A.sl.v428, kernelRun0_A.sl.v427, kernelRun0_A.sl.v138, kernelRun0_A.sl.cst_54, word_r_2 m c t, word_r_1 m c t]
  unfold ck
  generalize hs (raw m c t) = a
  generalize hq (raw m c t) = b
  rfl

/-- The lane-wise maxima after chunk 8. -/
theorem word_v446 (c : Dev nD) (t : Fin cfg0.N) :
    kernelRun0_A.sl.v446 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = lanes (lanes (lanes (lanes (lanes (lanes (lanes (lanes (lanes k0_pay15 (ck (raw m c t) 0)) (ck (raw m c t) 1)) (ck (raw m c t) 2)) (ck (raw m c t) 3)) (ck (raw m c t) 4)) (ck (raw m c t) 5)) (ck (raw m c t) 6)) (ck (raw m c t) 7)) (ck (raw m c t) 8) := by
  simp only [kernelRun0_A.sl.v446, kernelRun0_A.sl.v443, kernelRun0_A.sl.v440, kernelRun0_A.sl.v437, kernelRun0_A.sl.v436, kernelRun0_A.sl.v435, kernelRun0_A.sl.v439, kernelRun0_A.sl.v438, kernelRun0_A.sl.v442, kernelRun0_A.sl.v441, kernelRun0_A.sl.v445, kernelRun0_A.sl.v444, word_v410 m c t, word_v431 m c t]
  generalize ck (raw m c t) 8 = b
  generalize (lanes (lanes (lanes (lanes (lanes (lanes (lanes (lanes k0_pay15 (ck (raw m c t) 0)) (ck (raw m c t) 1)) (ck (raw m c t) 2)) (ck (raw m c t) 3)) (ck (raw m c t) 4)) (ck (raw m c t) 5)) (ck (raw m c t) 6)) (ck (raw m c t) 7)) = a
  rfl

/-- Chunk 9 of the inner layer. -/
theorem word_v467 (c : Dev nD) (t : Fin cfg0.N) :
    kernelRun0_A.sl.v467 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = ck (raw m c t) 9 := by
  simp only [kernelRun0_A.sl.v467, kernelRun0_A.sl.v461, kernelRun0_A.sl.v136, kernelRun0_A.sl.cst_53, kernelRun0_A.sl.v459, kernelRun0_A.sl.v455, kernelRun0_A.sl.v451, kernelRun0_A.sl.v449, kernelRun0_A.sl.v448, kernelRun0_A.sl.cst_59, kernelRun0_A.sl.v126, kernelRun0_A.sl.v454, kernelRun0_A.sl.v453, kernelRun0_A.sl.v458, kernelRun0_A.sl.v457, kernelRun0_A.sl.v466, kernelRun0_A.sl.v141, kernelRun0_A.sl.cst_55, kernelRun0_A.sl.v464, kernelRun0_A.sl.v463, kernelRun0_A.sl.v138, kernelRun0_A.sl.cst_54, word_r_2 m c t, word_r_1 m c t]
  unfold ck
  generalize hs (raw m c t) = a
  generalize hq (raw m c t) = b
  rfl

/-- The lane-wise maxima after chunk 9. -/
theorem word_v482 (c : Dev nD) (t : Fin cfg0.N) :
    kernelRun0_A.sl.v482 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = lanes (lanes (lanes (lanes (lanes (lanes (lanes (lanes (lanes (lanes k0_pay15 (ck (raw m c t) 0)) (ck (raw m c t) 1)) (ck (raw m c t) 2)) (ck (raw m c t) 3)) (ck (raw m c t) 4)) (ck (raw m c t) 5)) (ck (raw m c t) 6)) (ck (raw m c t) 7)) (ck (raw m c t) 8)) (ck (raw m c t) 9) := by
  simp only [kernelRun0_A.sl.v482, kernelRun0_A.sl.v479, kernelRun0_A.sl.v476, kernelRun0_A.sl.v473, kernelRun0_A.sl.v472, kernelRun0_A.sl.v471, kernelRun0_A.sl.v475, kernelRun0_A.sl.v474, kernelRun0_A.sl.v478, kernelRun0_A.sl.v477, kernelRun0_A.sl.v481, kernelRun0_A.sl.v480, word_v446 m c t, word_v467 m c t]
  generalize ck (raw m c t) 9 = b
  generalize (lanes (lanes (lanes (lanes (lanes (lanes (lanes (lanes (lanes k0_pay15 (ck (raw m c t) 0)) (ck (raw m c t) 1)) (ck (raw m c t) 2)) (ck (raw m c t) 3)) (ck (raw m c t) 4)) (ck (raw m c t) 5)) (ck (raw m c t) 6)) (ck (raw m c t) 7)) (ck (raw m c t) 8)) = a
  rfl

/-- Chunk 10 of the inner layer. -/
theorem word_v503 (c : Dev nD) (t : Fin cfg0.N) :
    kernelRun0_A.sl.v503 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = ck (raw m c t) 10 := by
  simp only [kernelRun0_A.sl.v503, kernelRun0_A.sl.v497, kernelRun0_A.sl.v136, kernelRun0_A.sl.cst_53, kernelRun0_A.sl.v495, kernelRun0_A.sl.v491, kernelRun0_A.sl.v487, kernelRun0_A.sl.v485, kernelRun0_A.sl.v484, kernelRun0_A.sl.cst_59, kernelRun0_A.sl.v126, kernelRun0_A.sl.v490, kernelRun0_A.sl.v489, kernelRun0_A.sl.v494, kernelRun0_A.sl.v493, kernelRun0_A.sl.v502, kernelRun0_A.sl.v141, kernelRun0_A.sl.cst_55, kernelRun0_A.sl.v500, kernelRun0_A.sl.v499, kernelRun0_A.sl.v138, kernelRun0_A.sl.cst_54, word_r_2 m c t, word_r_1 m c t]
  unfold ck
  generalize hs (raw m c t) = a
  generalize hq (raw m c t) = b
  rfl

/-- The lane-wise maxima after chunk 10. -/
theorem word_v518 (c : Dev nD) (t : Fin cfg0.N) :
    kernelRun0_A.sl.v518 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = lanes (lanes (lanes (lanes (lanes (lanes (lanes (lanes (lanes (lanes (lanes k0_pay15 (ck (raw m c t) 0)) (ck (raw m c t) 1)) (ck (raw m c t) 2)) (ck (raw m c t) 3)) (ck (raw m c t) 4)) (ck (raw m c t) 5)) (ck (raw m c t) 6)) (ck (raw m c t) 7)) (ck (raw m c t) 8)) (ck (raw m c t) 9)) (ck (raw m c t) 10) := by
  simp only [kernelRun0_A.sl.v518, kernelRun0_A.sl.v515, kernelRun0_A.sl.v512, kernelRun0_A.sl.v509, kernelRun0_A.sl.v508, kernelRun0_A.sl.v507, kernelRun0_A.sl.v511, kernelRun0_A.sl.v510, kernelRun0_A.sl.v514, kernelRun0_A.sl.v513, kernelRun0_A.sl.v517, kernelRun0_A.sl.v516, word_v482 m c t, word_v503 m c t]
  generalize ck (raw m c t) 10 = b
  generalize (lanes (lanes (lanes (lanes (lanes (lanes (lanes (lanes (lanes (lanes k0_pay15 (ck (raw m c t) 0)) (ck (raw m c t) 1)) (ck (raw m c t) 2)) (ck (raw m c t) 3)) (ck (raw m c t) 4)) (ck (raw m c t) 5)) (ck (raw m c t) 6)) (ck (raw m c t) 7)) (ck (raw m c t) 8)) (ck (raw m c t) 9)) = a
  rfl

/-- Chunk 11 of the inner layer. -/
theorem word_v539 (c : Dev nD) (t : Fin cfg0.N) :
    kernelRun0_A.sl.v539 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = ck (raw m c t) 11 := by
  simp only [kernelRun0_A.sl.v539, kernelRun0_A.sl.v533, kernelRun0_A.sl.v136, kernelRun0_A.sl.cst_53, kernelRun0_A.sl.v531, kernelRun0_A.sl.v527, kernelRun0_A.sl.v523, kernelRun0_A.sl.v521, kernelRun0_A.sl.v520, kernelRun0_A.sl.cst_59, kernelRun0_A.sl.v126, kernelRun0_A.sl.v526, kernelRun0_A.sl.v525, kernelRun0_A.sl.v530, kernelRun0_A.sl.v529, kernelRun0_A.sl.v538, kernelRun0_A.sl.v141, kernelRun0_A.sl.cst_55, kernelRun0_A.sl.v536, kernelRun0_A.sl.v535, kernelRun0_A.sl.v138, kernelRun0_A.sl.cst_54, word_r_2 m c t, word_r_1 m c t]
  unfold ck
  generalize hs (raw m c t) = a
  generalize hq (raw m c t) = b
  rfl

/-- The second step. -/
theorem word_v562 (c : Dev nD) (t : Fin cfg0.N) :
    kernelRun0_A.sl.v562 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = fs (raw m c t) := by
  simp only [kernelRun0_A.sl.v562, kernelRun0_A.sl.v558, kernelRun0_A.sl.v556, kernelRun0_A.sl.v555, kernelRun0_A.sl.v554, kernelRun0_A.sl.v551, kernelRun0_A.sl.v548, kernelRun0_A.sl.v545, kernelRun0_A.sl.v544, kernelRun0_A.sl.v543, kernelRun0_A.sl.v547, kernelRun0_A.sl.v546, kernelRun0_A.sl.v550, kernelRun0_A.sl.v549, kernelRun0_A.sl.v553, kernelRun0_A.sl.v552, kernelRun0_A.sl.v557, kernelRun0_A.sl.cst_180, kernelRun0_A.sl.v561, kernelRun0_A.sl.cst_55, kernelRun0_A.sl.v560, kernelRun0_A.sl.v559, kernelRun0_A.sl.cst_181, word_v518 m c t, word_v539 m c t]
  rfl

/-- The second quantisation's steps as written. -/
theorem word_v576 (c : Dev nD) (t : Fin cfg0.N) :
    kernelRun0_A.sl.v576 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = k0_pay65 (k0_pay63 (am (raw m c t)) (k0_pay58 (hq (raw m c t)) ((raw m c t).w1 11)) (k0_pay59 (hs (raw m c t))) ((raw m c t).s1 11) ((raw m c t).bf1 11)) (k0_pay64 (am (raw m c t)) (k0_pay58 (hq (raw m c t)) ((raw m c t).w1 11)) (k0_pay59 (hs (raw m c t))) ((raw m c t).s1 11) ((raw m c t).bf1 11)) := by
  simp only [kernelRun0_A.sl.v576, kernelRun0_A.sl.v573, kernelRun0_A.sl.v567, kernelRun0_A.sl.v566, kernelRun0_A.sl.v565, kernelRun0_A.sl.v564, kernelRun0_A.sl.v563, kernelRun0_A.sl.v572, kernelRun0_A.sl.v571, kernelRun0_A.sl.v570, kernelRun0_A.sl.v569, kernelRun0_A.sl.v568]
  rw [word_v562 m c t]
  unfold fs
  generalize am (raw m c t) = a
  generalize hq (raw m c t) = b
  generalize hs (raw m c t) = d
  rfl

/-- The scratch of the inner layer's chunks. -/
theorem word_HS0_12 (c : Dev nD) (t : Fin cfg0.N) :
    kernelRun0_A.sl.HS0_12 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = tiles (e := .f32) fun j => shapeCast S256x512 (ck (raw m c t) j) shapeCasts_S256x512_S256x512 := by
  simp only [kernelRun0_A.sl.HS0_12, kernelRun0_A.sl.v542, kernelRun0_A.sl.v506, kernelRun0_A.sl.v470, kernelRun0_A.sl.v434, kernelRun0_A.sl.v398, kernelRun0_A.sl.v362, kernelRun0_A.sl.v326, kernelRun0_A.sl.v290, kernelRun0_A.sl.v254, kernelRun0_A.sl.v218, kernelRun0_A.sl.v182, kernelRun0_A.sl.v146, word_v539 m c t, word_v503 m c t, word_v467 m c t, word_v431 m c t, word_v395 m c t, word_v359 m c t, word_v323 m c t, word_v287 m c t, word_v251 m c t, word_v215 m c t, word_v179 m c t, word_v143 m c t]
  rfl

/-- Chunk 0 read back. -/
theorem word_v577 (c : Dev nD) (t : Fin cfg0.N) :
    kernelRun0_A.sl.v577 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = rb (raw m c t) scM0_0.view 0 := by
  simp only [kernelRun0_A.sl.v577, word_HS0_12 m c t, rb, Matrix.cons_val]

/-- The codes of chunk 0. -/
theorem word_v585 (c : Dev nD) (t : Fin cfg0.N) :
    kernelRun0_A.sl.v585 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = k0_pay67 (fs (raw m c t)) (rb (raw m c t) scM0_0.view 0) := by
  simp only [kernelRun0_A.sl.v585, kernelRun0_A.sl.v584, kernelRun0_A.sl.v583, kernelRun0_A.sl.cst_181, kernelRun0_A.sl.v582, kernelRun0_A.sl.v581, kernelRun0_A.sl.cst_188, kernelRun0_A.sl.v580, kernelRun0_A.sl.v579, kernelRun0_A.sl.v578, word_v577 m c t, word_v562 m c t]
  generalize fs (raw m c t) = a
  generalize rb (raw m c t) scM0_0.view 0 = b
  rfl

/-- The codes of chunk 0 as numbers. -/
theorem word_v590 (c : Dev nD) (t : Fin cfg0.N) :
    kernelRun0_A.sl.v590 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = k0_pay68 (fs (raw m c t)) (rb (raw m c t) scM0_0.view 0) := by
  simp only [kernelRun0_A.sl.v590, kernelRun0_A.sl.v587, kernelRun0_A.sl.v584, kernelRun0_A.sl.v583, kernelRun0_A.sl.cst_181, kernelRun0_A.sl.v582, kernelRun0_A.sl.v581, kernelRun0_A.sl.cst_188, kernelRun0_A.sl.v580, kernelRun0_A.sl.v579, kernelRun0_A.sl.v578, word_v577 m c t, word_v562 m c t]
  generalize fs (raw m c t) = a
  generalize rb (raw m c t) scM0_0.view 0 = b
  rfl

/-- Chunk 1 read back. -/
theorem word_v591 (c : Dev nD) (t : Fin cfg0.N) :
    kernelRun0_A.sl.v591 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = rb (raw m c t) scM0_0.view 1 := by
  simp only [kernelRun0_A.sl.v591, word_HS0_12 m c t, rb, Matrix.cons_val]

/-- The codes of chunk 1. -/
theorem word_v599 (c : Dev nD) (t : Fin cfg0.N) :
    kernelRun0_A.sl.v599 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = k0_pay67 (fs (raw m c t)) (rb (raw m c t) scM0_0.view 1) := by
  simp only [kernelRun0_A.sl.v599, kernelRun0_A.sl.v598, kernelRun0_A.sl.v583, kernelRun0_A.sl.cst_181, kernelRun0_A.sl.v596, kernelRun0_A.sl.v581, kernelRun0_A.sl.cst_188, kernelRun0_A.sl.v594, kernelRun0_A.sl.v593, kernelRun0_A.sl.v578, word_v591 m c t, word_v562 m c t]
  generalize fs (raw m c t) = a
  generalize rb (raw m c t) scM0_0.view 1 = b
  rfl

/-- The codes of chunk 1 as numbers. -/
theorem word_v604 (c : Dev nD) (t : Fin cfg0.N) :
    kernelRun0_A.sl.v604 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = k0_pay68 (fs (raw m c t)) (rb (raw m c t) scM0_0.view 1) := by
  simp only [kernelRun0_A.sl.v604, kernelRun0_A.sl.v601, kernelRun0_A.sl.v598, kernelRun0_A.sl.v583, kernelRun0_A.sl.cst_181, kernelRun0_A.sl.v596, kernelRun0_A.sl.v581, kernelRun0_A.sl.cst_188, kernelRun0_A.sl.v594, kernelRun0_A.sl.v593, kernelRun0_A.sl.v578, word_v591 m c t, word_v562 m c t]
  generalize fs (raw m c t) = a
  generalize rb (raw m c t) scM0_0.view 1 = b
  rfl

/-- Chunk 2 read back. -/
theorem word_v605 (c : Dev nD) (t : Fin cfg0.N) :
    kernelRun0_A.sl.v605 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = rb (raw m c t) scM0_0.view 2 := by
  simp only [kernelRun0_A.sl.v605, word_HS0_12 m c t, rb, Matrix.cons_val]

/-- The codes of chunk 2. -/
theorem word_v613 (c : Dev nD) (t : Fin cfg0.N) :
    kernelRun0_A.sl.v613 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = k0_pay67 (fs (raw m c t)) (rb (raw m c t) scM0_0.view 2) := by
  simp only [kernelRun0_A.sl.v613, kernelRun0_A.sl.v612, kernelRun0_A.sl.v583, kernelRun0_A.sl.cst_181, kernelRun0_A.sl.v610, kernelRun0_A.sl.v581, kernelRun0_A.sl.cst_188, kernelRun0_A.sl.v608, kernelRun0_A.sl.v607, kernelRun0_A.sl.v578, word_v605 m c t, word_v562 m c t]
  generalize fs (raw m c t) = a
  generalize rb (raw m c t) scM0_0.view 2 = b
  rfl

/-- The codes of chunk 2 as numbers. -/
theorem word_v618 (c : Dev nD) (t : Fin cfg0.N) :
    kernelRun0_A.sl.v618 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = k0_pay68 (fs (raw m c t)) (rb (raw m c t) scM0_0.view 2) := by
  simp only [kernelRun0_A.sl.v618, kernelRun0_A.sl.v615, kernelRun0_A.sl.v612, kernelRun0_A.sl.v583, kernelRun0_A.sl.cst_181, kernelRun0_A.sl.v610, kernelRun0_A.sl.v581, kernelRun0_A.sl.cst_188, kernelRun0_A.sl.v608, kernelRun0_A.sl.v607, kernelRun0_A.sl.v578, word_v605 m c t, word_v562 m c t]
  generalize fs (raw m c t) = a
  generalize rb (raw m c t) scM0_0.view 2 = b
  rfl

/-- Chunk 3 read back. -/
theorem word_v619 (c : Dev nD) (t : Fin cfg0.N) :
    kernelRun0_A.sl.v619 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = rb (raw m c t) scM0_0.view 3 := by
  simp only [kernelRun0_A.sl.v619, word_HS0_12 m c t, rb, Matrix.cons_val]

/-- The codes of chunk 3. -/
theorem word_v627 (c : Dev nD) (t : Fin cfg0.N) :
    kernelRun0_A.sl.v627 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = k0_pay67 (fs (raw m c t)) (rb (raw m c t) scM0_0.view 3) := by
  simp only [kernelRun0_A.sl.v627, kernelRun0_A.sl.v626, kernelRun0_A.sl.v583, kernelRun0_A.sl.cst_181, kernelRun0_A.sl.v624, kernelRun0_A.sl.v581, kernelRun0_A.sl.cst_188, kernelRun0_A.sl.v622, kernelRun0_A.sl.v621, kernelRun0_A.sl.v578, word_v619 m c t, word_v562 m c t]
  generalize fs (raw m c t) = a
  generalize rb (raw m c t) scM0_0.view 3 = b
  rfl

/-- The codes of chunk 3 as numbers. -/
theorem word_v632 (c : Dev nD) (t : Fin cfg0.N) :
    kernelRun0_A.sl.v632 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = k0_pay68 (fs (raw m c t)) (rb (raw m c t) scM0_0.view 3) := by
  simp only [kernelRun0_A.sl.v632, kernelRun0_A.sl.v629, kernelRun0_A.sl.v626, kernelRun0_A.sl.v583, kernelRun0_A.sl.cst_181, kernelRun0_A.sl.v624, kernelRun0_A.sl.v581, kernelRun0_A.sl.cst_188, kernelRun0_A.sl.v622, kernelRun0_A.sl.v621, kernelRun0_A.sl.v578, word_v619 m c t, word_v562 m c t]
  generalize fs (raw m c t) = a
  generalize rb (raw m c t) scM0_0.view 3 = b
  rfl

/-- Chunk 4 read back. -/
theorem word_v633 (c : Dev nD) (t : Fin cfg0.N) :
    kernelRun0_A.sl.v633 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = rb (raw m c t) scM0_0.view 4 := by
  simp only [kernelRun0_A.sl.v633, word_HS0_12 m c t, rb, Matrix.cons_val]

/-- The codes of chunk 4. -/
theorem word_v641 (c : Dev nD) (t : Fin cfg0.N) :
    kernelRun0_A.sl.v641 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = k0_pay67 (fs (raw m c t)) (rb (raw m c t) scM0_0.view 4) := by
  simp only [kernelRun0_A.sl.v641, kernelRun0_A.sl.v640, kernelRun0_A.sl.v583, kernelRun0_A.sl.cst_181, kernelRun0_A.sl.v638, kernelRun0_A.sl.v581, kernelRun0_A.sl.cst_188, kernelRun0_A.sl.v636, kernelRun0_A.sl.v635, kernelRun0_A.sl.v578, word_v633 m c t, word_v562 m c t]
  generalize fs (raw m c t) = a
  generalize rb (raw m c t) scM0_0.view 4 = b
  rfl

/-- The codes of chunk 4 as numbers. -/
theorem word_v646 (c : Dev nD) (t : Fin cfg0.N) :
    kernelRun0_A.sl.v646 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = k0_pay68 (fs (raw m c t)) (rb (raw m c t) scM0_0.view 4) := by
  simp only [kernelRun0_A.sl.v646, kernelRun0_A.sl.v643, kernelRun0_A.sl.v640, kernelRun0_A.sl.v583, kernelRun0_A.sl.cst_181, kernelRun0_A.sl.v638, kernelRun0_A.sl.v581, kernelRun0_A.sl.cst_188, kernelRun0_A.sl.v636, kernelRun0_A.sl.v635, kernelRun0_A.sl.v578, word_v633 m c t, word_v562 m c t]
  generalize fs (raw m c t) = a
  generalize rb (raw m c t) scM0_0.view 4 = b
  rfl

/-- Chunk 5 read back. -/
theorem word_v647 (c : Dev nD) (t : Fin cfg0.N) :
    kernelRun0_A.sl.v647 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = rb (raw m c t) scM0_0.view 5 := by
  simp only [kernelRun0_A.sl.v647, word_HS0_12 m c t, rb, Matrix.cons_val]

/-- The codes of chunk 5. -/
theorem word_v655 (c : Dev nD) (t : Fin cfg0.N) :
    kernelRun0_A.sl.v655 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = k0_pay67 (fs (raw m c t)) (rb (raw m c t) scM0_0.view 5) := by
  simp only [kernelRun0_A.sl.v655, kernelRun0_A.sl.v654, kernelRun0_A.sl.v583, kernelRun0_A.sl.cst_181, kernelRun0_A.sl.v652, kernelRun0_A.sl.v581, kernelRun0_A.sl.cst_188, kernelRun0_A.sl.v650, kernelRun0_A.sl.v649, kernelRun0_A.sl.v578, word_v647 m c t, word_v562 m c t]
  generalize fs (raw m c t) = a
  generalize rb (raw m c t) scM0_0.view 5 = b
  rfl

/-- The codes of chunk 5 as numbers. -/
theorem word_v660 (c : Dev nD) (t : Fin cfg0.N) :
    kernelRun0_A.sl.v660 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = k0_pay68 (fs (raw m c t)) (rb (raw m c t) scM0_0.view 5) := by
  simp only [kernelRun0_A.sl.v660, kernelRun0_A.sl.v657, kernelRun0_A.sl.v654, kernelRun0_A.sl.v583, kernelRun0_A.sl.cst_181, kernelRun0_A.sl.v652, kernelRun0_A.sl.v581, kernelRun0_A.sl.cst_188, kernelRun0_A.sl.v650, kernelRun0_A.sl.v649, kernelRun0_A.sl.v578, word_v647 m c t, word_v562 m c t]
  generalize fs (raw m c t) = a
  generalize rb (raw m c t) scM0_0.view 5 = b
  rfl

/-- Chunk 6 read back. -/
theorem word_v661 (c : Dev nD) (t : Fin cfg0.N) :
    kernelRun0_A.sl.v661 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = rb (raw m c t) scM0_0.view 6 := by
  simp only [kernelRun0_A.sl.v661, word_HS0_12 m c t, rb, Matrix.cons_val]

/-- The codes of chunk 6. -/
theorem word_v669 (c : Dev nD) (t : Fin cfg0.N) :
    kernelRun0_A.sl.v669 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = k0_pay67 (fs (raw m c t)) (rb (raw m c t) scM0_0.view 6) := by
  simp only [kernelRun0_A.sl.v669, kernelRun0_A.sl.v668, kernelRun0_A.sl.v583, kernelRun0_A.sl.cst_181, kernelRun0_A.sl.v666, kernelRun0_A.sl.v581, kernelRun0_A.sl.cst_188, kernelRun0_A.sl.v664, kernelRun0_A.sl.v663, kernelRun0_A.sl.v578, word_v661 m c t, word_v562 m c t]
  generalize fs (raw m c t) = a
  generalize rb (raw m c t) scM0_0.view 6 = b
  rfl

/-- The codes of chunk 6 as numbers. -/
theorem word_v674 (c : Dev nD) (t : Fin cfg0.N) :
    kernelRun0_A.sl.v674 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = k0_pay68 (fs (raw m c t)) (rb (raw m c t) scM0_0.view 6) := by
  simp only [kernelRun0_A.sl.v674, kernelRun0_A.sl.v671, kernelRun0_A.sl.v668, kernelRun0_A.sl.v583, kernelRun0_A.sl.cst_181, kernelRun0_A.sl.v666, kernelRun0_A.sl.v581, kernelRun0_A.sl.cst_188, kernelRun0_A.sl.v664, kernelRun0_A.sl.v663, kernelRun0_A.sl.v578, word_v661 m c t, word_v562 m c t]
  generalize fs (raw m c t) = a
  generalize rb (raw m c t) scM0_0.view 6 = b
  rfl

/-- Chunk 7 read back. -/
theorem word_v675 (c : Dev nD) (t : Fin cfg0.N) :
    kernelRun0_A.sl.v675 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = rb (raw m c t) scM0_0.view 7 := by
  simp only [kernelRun0_A.sl.v675, word_HS0_12 m c t, rb, Matrix.cons_val]

/-- The codes of chunk 7. -/
theorem word_v683 (c : Dev nD) (t : Fin cfg0.N) :
    kernelRun0_A.sl.v683 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = k0_pay67 (fs (raw m c t)) (rb (raw m c t) scM0_0.view 7) := by
  simp only [kernelRun0_A.sl.v683, kernelRun0_A.sl.v682, kernelRun0_A.sl.v583, kernelRun0_A.sl.cst_181, kernelRun0_A.sl.v680, kernelRun0_A.sl.v581, kernelRun0_A.sl.cst_188, kernelRun0_A.sl.v678, kernelRun0_A.sl.v677, kernelRun0_A.sl.v578, word_v675 m c t, word_v562 m c t]
  generalize fs (raw m c t) = a
  generalize rb (raw m c t) scM0_0.view 7 = b
  rfl

/-- The codes of chunk 7 as numbers. -/
theorem word_v688 (c : Dev nD) (t : Fin cfg0.N) :
    kernelRun0_A.sl.v688 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = k0_pay68 (fs (raw m c t)) (rb (raw m c t) scM0_0.view 7) := by
  simp only [kernelRun0_A.sl.v688, kernelRun0_A.sl.v685, kernelRun0_A.sl.v682, kernelRun0_A.sl.v583, kernelRun0_A.sl.cst_181, kernelRun0_A.sl.v680, kernelRun0_A.sl.v581, kernelRun0_A.sl.cst_188, kernelRun0_A.sl.v678, kernelRun0_A.sl.v677, kernelRun0_A.sl.v578, word_v675 m c t, word_v562 m c t]
  generalize fs (raw m c t) = a
  generalize rb (raw m c t) scM0_0.view 7 = b
  rfl

/-- Chunk 8 read back. -/
theorem word_v689 (c : Dev nD) (t : Fin cfg0.N) :
    kernelRun0_A.sl.v689 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = rb (raw m c t) scM0_0.view 8 := by
  simp only [kernelRun0_A.sl.v689, word_HS0_12 m c t, rb, Matrix.cons_val]

/-- The codes of chunk 8. -/
theorem word_v697 (c : Dev nD) (t : Fin cfg0.N) :
    kernelRun0_A.sl.v697 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = k0_pay67 (fs (raw m c t)) (rb (raw m c t) scM0_0.view 8) := by
  simp only [kernelRun0_A.sl.v697, kernelRun0_A.sl.v696, kernelRun0_A.sl.v583, kernelRun0_A.sl.cst_181, kernelRun0_A.sl.v694, kernelRun0_A.sl.v581, kernelRun0_A.sl.cst_188, kernelRun0_A.sl.v692, kernelRun0_A.sl.v691, kernelRun0_A.sl.v578, word_v689 m c t, word_v562 m c t]
  generalize fs (raw m c t) = a
  generalize rb (raw m c t) scM0_0.view 8 = b
  rfl

/-- The codes of chunk 8 as numbers. -/
theorem word_v702 (c : Dev nD) (t : Fin cfg0.N) :
    kernelRun0_A.sl.v702 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = k0_pay68 (fs (raw m c t)) (rb (raw m c t) scM0_0.view 8) := by
  simp only [kernelRun0_A.sl.v702, kernelRun0_A.sl.v699, kernelRun0_A.sl.v696, kernelRun0_A.sl.v583, kernelRun0_A.sl.cst_181, kernelRun0_A.sl.v694, kernelRun0_A.sl.v581, kernelRun0_A.sl.cst_188, kernelRun0_A.sl.v692, kernelRun0_A.sl.v691, kernelRun0_A.sl.v578, word_v689 m c t, word_v562 m c t]
  generalize fs (raw m c t) = a
  generalize rb (raw m c t) scM0_0.view 8 = b
  rfl

/-- Chunk 9 read back. -/
theorem word_v703 (c : Dev nD) (t : Fin cfg0.N) :
    kernelRun0_A.sl.v703 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = rb (raw m c t) scM0_0.view 9 := by
  simp only [kernelRun0_A.sl.v703, word_HS0_12 m c t, rb, Matrix.cons_val]

/-- The codes of chunk 9. -/
theorem word_v711 (c : Dev nD) (t : Fin cfg0.N) :
    kernelRun0_A.sl.v711 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = k0_pay67 (fs (raw m c t)) (rb (raw m c t) scM0_0.view 9) := by
  simp only [kernelRun0_A.sl.v711, kernelRun0_A.sl.v710, kernelRun0_A.sl.v583, kernelRun0_A.sl.cst_181, kernelRun0_A.sl.v708, kernelRun0_A.sl.v581, kernelRun0_A.sl.cst_188, kernelRun0_A.sl.v706, kernelRun0_A.sl.v705, kernelRun0_A.sl.v578, word_v703 m c t, word_v562 m c t]
  generalize fs (raw m c t) = a
  generalize rb (raw m c t) scM0_0.view 9 = b
  rfl

/-- The codes of chunk 9 as numbers. -/
theorem word_v716 (c : Dev nD) (t : Fin cfg0.N) :
    kernelRun0_A.sl.v716 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = k0_pay68 (fs (raw m c t)) (rb (raw m c t) scM0_0.view 9) := by
  simp only [kernelRun0_A.sl.v716, kernelRun0_A.sl.v713, kernelRun0_A.sl.v710, kernelRun0_A.sl.v583, kernelRun0_A.sl.cst_181, kernelRun0_A.sl.v708, kernelRun0_A.sl.v581, kernelRun0_A.sl.cst_188, kernelRun0_A.sl.v706, kernelRun0_A.sl.v705, kernelRun0_A.sl.v578, word_v703 m c t, word_v562 m c t]
  generalize fs (raw m c t) = a
  generalize rb (raw m c t) scM0_0.view 9 = b
  rfl

/-- Chunk 10 read back. -/
theorem word_v717 (c : Dev nD) (t : Fin cfg0.N) :
    kernelRun0_A.sl.v717 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = rb (raw m c t) scM0_0.view 10 := by
  simp only [kernelRun0_A.sl.v717, word_HS0_12 m c t, rb, Matrix.cons_val]

/-- The codes of chunk 10. -/
theorem word_v725 (c : Dev nD) (t : Fin cfg0.N) :
    kernelRun0_A.sl.v725 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = k0_pay67 (fs (raw m c t)) (rb (raw m c t) scM0_0.view 10) := by
  simp only [kernelRun0_A.sl.v725, kernelRun0_A.sl.v724, kernelRun0_A.sl.v583, kernelRun0_A.sl.cst_181, kernelRun0_A.sl.v722, kernelRun0_A.sl.v581, kernelRun0_A.sl.cst_188, kernelRun0_A.sl.v720, kernelRun0_A.sl.v719, kernelRun0_A.sl.v578, word_v717 m c t, word_v562 m c t]
  generalize fs (raw m c t) = a
  generalize rb (raw m c t) scM0_0.view 10 = b
  rfl

/-- The codes of chunk 10 as numbers. -/
theorem word_v730 (c : Dev nD) (t : Fin cfg0.N) :
    kernelRun0_A.sl.v730 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = k0_pay68 (fs (raw m c t)) (rb (raw m c t) scM0_0.view 10) := by
  simp only [kernelRun0_A.sl.v730, kernelRun0_A.sl.v727, kernelRun0_A.sl.v724, kernelRun0_A.sl.v583, kernelRun0_A.sl.cst_181, kernelRun0_A.sl.v722, kernelRun0_A.sl.v581, kernelRun0_A.sl.cst_188, kernelRun0_A.sl.v720, kernelRun0_A.sl.v719, kernelRun0_A.sl.v578, word_v717 m c t, word_v562 m c t]
  generalize fs (raw m c t) = a
  generalize rb (raw m c t) scM0_0.view 10 = b
  rfl

/-- Chunk 11 read back. -/
theorem word_v731 (c : Dev nD) (t : Fin cfg0.N) :
    kernelRun0_A.sl.v731 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = rb (raw m c t) scM0_0.view 11 := by
  simp only [kernelRun0_A.sl.v731, word_HS0_12 m c t, rb, Matrix.cons_val]

/-- The codes of chunk 11. -/
theorem word_v739 (c : Dev nD) (t : Fin cfg0.N) :
    kernelRun0_A.sl.v739 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = k0_pay67 (fs (raw m c t)) (rb (raw m c t) scM0_0.view 11) := by
  simp only [kernelRun0_A.sl.v739, kernelRun0_A.sl.v738, kernelRun0_A.sl.v583, kernelRun0_A.sl.cst_181, kernelRun0_A.sl.v736, kernelRun0_A.sl.v581, kernelRun0_A.sl.cst_188, kernelRun0_A.sl.v734, kernelRun0_A.sl.v733, kernelRun0_A.sl.v578, word_v731 m c t, word_v562 m c t]
  generalize fs (raw m c t) = a
  generalize rb (raw m c t) scM0_0.view 11 = b
  rfl

/-- The codes of chunk 11 as numbers. -/
theorem word_v744 (c : Dev nD) (t : Fin cfg0.N) :
    kernelRun0_A.sl.v744 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = k0_pay68 (fs (raw m c t)) (rb (raw m c t) scM0_0.view 11) := by
  simp only [kernelRun0_A.sl.v744, kernelRun0_A.sl.v741, kernelRun0_A.sl.v738, kernelRun0_A.sl.v583, kernelRun0_A.sl.cst_181, kernelRun0_A.sl.v736, kernelRun0_A.sl.v581, kernelRun0_A.sl.cst_188, kernelRun0_A.sl.v734, kernelRun0_A.sl.v733, kernelRun0_A.sl.v578, word_v731 m c t, word_v562 m c t]
  generalize fs (raw m c t) = a
  generalize rb (raw m c t) scM0_0.view 11 = b
  rfl

/-- The scratch of the second quantisation. -/
theorem word_HS1_12 (c : Dev nD) (t : Fin cfg0.N) :
    kernelRun0_A.sl.HS1_12 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = tiles (e := .bf16) fun j => k0_pay68 (fs (raw m c t)) (rb (raw m c t) scM0_0.view j) := by
  simp only [kernelRun0_A.sl.HS1_12, word_v744 m c t, word_v730 m c t, word_v716 m c t, word_v702 m c t, word_v688 m c t, word_v674 m c t, word_v660 m c t, word_v646 m c t, word_v632 m c t, word_v618 m c t, word_v604 m c t, word_v590 m c t]
  rfl

/-- The second quantisation read back. -/
theorem word_v745 (c : Dev nD) (t : Fin cfg0.N) :
    kernelRun0_A.sl.v745 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 scM0_1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
      = qb (raw m c t) scM0_0.view scM0_1.view := by
  simp only [kernelRun0_A.sl.v745, word_HS1_12 m c t]
  rfl

/-- The result before quantisation. -/
theorem word_v783 (c : Dev nD) (t : Fin cfg0.N) :
    kernelRun0_A.sl.v783 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 scM0_1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
      = h2 (raw m c t) scM0_0.view scM0_1.view := by
  simp only [kernelRun0_A.sl.v783, kernelRun0_A.sl.v781, kernelRun0_A.sl.v779, kernelRun0_A.sl.v769, kernelRun0_A.sl.v759, kernelRun0_A.sl.v758, kernelRun0_A.sl.v754, kernelRun0_A.sl.v750, kernelRun0_A.sl.v748, kernelRun0_A.sl.v747, kernelRun0_A.sl.cst_20, kernelRun0_A.sl.v749, kernelRun0_A.sl.v753, kernelRun0_A.sl.v752, kernelRun0_A.sl.v757, kernelRun0_A.sl.v756, kernelRun0_A.sl.v768, kernelRun0_A.sl.v767, kernelRun0_A.sl.v765, kernelRun0_A.sl.v764, kernelRun0_A.sl.v9, kernelRun0_A.sl.cst_5, kernelRun0_A.sl.v778, kernelRun0_A.sl.v777, kernelRun0_A.sl.v776, kernelRun0_A.sl.v774, kernelRun0_A.sl.v772, kernelRun0_A.sl.v771, kernelRun0_A.sl.v770, kernelRun0_A.sl.v18, kernelRun0_A.sl.cst_8, kernelRun0_A.sl.v780, kernelRun0_A.sl.v761, kernelRun0_A.sl.v782, kernelRun0_A.sl.v763, word_v745 m c t, word_v562 m c t, word_r m c t]
  rfl

end Cert.FfnIdeal.Block
-- ==== Proof.Tower.lean ====
/- What one grid point of the kernel leaves in each output's block. -/
module

public import proofs.«01_k».proof.Proof.FfnIdeal.Frame
public import proofs.«01_k».proof.Proof.Words
public import Idealize.ShloMosaic.Lib.Pipeline.ValueKit

@[expose] public section

set_option maxRecDepth 16384

noncomputable section

namespace Cert.FfnIdeal.Block

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- Grid point `t` leaves the result's codes. -/
theorem left19 (c : Dev nD) (t : Fin cfg0.N) : (dats m 0 c).after 19 t = k0_pay104 (h2 (raw m c t) scM0_0.view scM0_1.view) := by
  rw [after0_19]
  unfold outsAt0
  dsimp only
  unfold out0_A_19
  rw [View.read_writes_eq_canon _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )]
  unfold kernelRun0_A
  dsimp only
  rw [View.canon_cons_unit_lit]
  · simp only [word_v783 m c t]
  · decide

/-- Grid point `t` leaves the result's steps. -/
theorem left20 (c : Dev nD) (t : Fin cfg0.N) : (dats m 0 c).after 20 t = k0_pay1 (k0_pay105 (h2 (raw m c t) scM0_0.view scM0_1.view)) := by
  rw [after0_20]
  unfold outsAt0
  dsimp only
  unfold out0_A_20
  rw [View.read_writes_eq_canon _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )]
  unfold kernelRun0_A
  dsimp only
  rw [View.canon_cons_unit_lit]
  · simp only [kernelRun0_A.sl.r_5, word_v783 m c t]
  · decide

/-- Grid point `t` leaves the result. -/
theorem left21 (c : Dev nD) (t : Fin cfg0.N) : (dats m 0 c).after 21 t = h2 (raw m c t) scM0_0.view scM0_1.view := by
  rw [after0_21]
  unfold outsAt0
  dsimp only
  unfold out0_A_21
  rw [View.read_writes_eq_canon _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )]
  unfold kernelRun0_A
  dsimp only
  rw [View.canon_cons_unit_lit]
  · simp only [word_v783 m c t]
  · decide

/-- Grid point `t` leaves the attention half's codes. -/
theorem left22 (c : Dev nD) (t : Fin cfg0.N) : (dats m 0 c).after 22 t = k0_pay12 (k0_pay5 (raw m c t).g1) (k0_pay6 (raw m c t).b1) (cen (raw m c t)) (dv (raw m c t)) := by
  rw [after0_22]
  unfold outsAt0
  dsimp only
  unfold out0_A_22
  rw [View.read_writes_eq_canon _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )]
  unfold kernelRun0_A
  dsimp only
  rw [View.canon_cons_unit_lit]
  · simp only [word_v66 m c t, word_v68 m c t, word_v74 m c t, word_v82 m c t]
  · decide

/-- Grid point `t` leaves the attention half's steps. -/
theorem left23 (c : Dev nD) (t : Fin cfg0.N) : (dats m 0 c).after 23 t = k0_pay13 (k0_pay5 (raw m c t).g1) (k0_pay6 (raw m c t).b1) (cen (raw m c t)) (dv (raw m c t)) := by
  rw [after0_23]
  unfold outsAt0
  dsimp only
  unfold out0_A_23
  rw [View.read_writes_eq_canon _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )]
  unfold kernelRun0_A
  dsimp only
  rw [View.canon_cons_unit_lit]
  · simp only [word_v66 m c t, word_v68 m c t, word_v74 m c t, word_v82 m c t]
  · decide

/-- Grid point `t` leaves the second quantisation's codes. -/
theorem left24 (c : Dev nD) (t : Fin cfg0.N) :
    (dats m 0 c).after 24 t = View.canon (Val := Elt Ideal) (s := S256x6144) (e := .i8) (tiles (e := .i8) fun j => k0_pay67 (fs (raw m c t)) (rb (raw m c t) scM0_0.view j)) := by
  rw [after0_24]
  unfold outsAt0
  dsimp only
  unfold out0_A_24
  rw [View.read_writes_eq_canon _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )]
  unfold kernelRun0_A
  dsimp only
  simp only [word_v585 m c t, word_v599 m c t, word_v613 m c t, word_v627 m c t, word_v641 m c t, word_v655 m c t, word_v669 m c t, word_v683 m c t, word_v697 m c t, word_v711 m c t, word_v725 m c t, word_v739 m c t]
  rfl

/-- Grid point `t` leaves the second quantisation's steps. -/
theorem left25 (c : Dev nD) (t : Fin cfg0.N) : (dats m 0 c).after 25 t = k0_pay65 (k0_pay63 (am (raw m c t)) (k0_pay58 (hq (raw m c t)) ((raw m c t).w1 11)) (k0_pay59 (hs (raw m c t))) ((raw m c t).s1 11) ((raw m c t).bf1 11)) (k0_pay64 (am (raw m c t)) (k0_pay58 (hq (raw m c t)) ((raw m c t).w1 11)) (k0_pay59 (hs (raw m c t))) ((raw m c t).s1 11) ((raw m c t).bf1 11)) := by
  rw [after0_25]
  unfold outsAt0
  dsimp only
  unfold out0_A_25
  rw [View.read_writes_eq_canon _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ )]
  unfold kernelRun0_A
  dsimp only
  rw [View.canon_cons_unit_lit]
  · simp only [word_v576 m c t]
  · decide

end Cert.FfnIdeal.Block
-- ==== Proof.Spec.lean ====
/- The layer's second half for one token: from the attention's codes, their step and the layer's input at
   that token to the seven values the layer returns for it. -/
module

public import proofs.«01_k».proof.Proof.Rows

@[expose] public section

noncomputable section

namespace Cert.Rows

open Idealize.ShloMosaic

/-- The layer's parameters: gains and offsets of the three layer normalisations, and of each projection the
    int8 weights, the columns' scales and the bias. -/
structure Params where
  /-- Gain of the input's normalisation. -/
  g0 : Fin 1536 → EReal
  /-- Offset of the input's normalisation. -/
  b0 : Fin 1536 → EReal
  /-- Weights of the attention's output projection. -/
  wo : Fin 1536 → Fin 1536 → BitVec 8
  /-- Its columns' scales. -/
  so : Fin 1536 → EReal
  /-- Its bias. -/
  bo : Fin 1536 → EReal
  /-- Gain of the normalisation after the attention. -/
  g1 : Fin 1536 → EReal
  /-- Offset of the normalisation after the attention. -/
  b1 : Fin 1536 → EReal
  /-- Weights of the inner layer. -/
  w1 : Fin 1536 → Fin 6144 → BitVec 8
  /-- Its columns' scales. -/
  s1 : Fin 6144 → EReal
  /-- Its bias. -/
  bf1 : Fin 6144 → EReal
  /-- Weights of the outer layer. -/
  w2 : Fin 6144 → Fin 1536 → BitVec 8
  /-- Its columns' scales. -/
  s2 : Fin 1536 → EReal
  /-- Its bias. -/
  bf2 : Fin 1536 → EReal
  /-- Gain of the last normalisation. -/
  g2 : Fin 1536 → EReal
  /-- Offset of the last normalisation. -/
  b2 : Fin 1536 → EReal

/-- What one token brings: its attention output's codes, their step, and its input to the layer. -/
structure Token where
  /-- The attention output's codes. -/
  cc : Fin 1536 → BitVec 8
  /-- Their step. -/
  cs : EReal
  /-- The layer's input. -/
  x : Fin 1536 → EReal

variable (P : Params) (T : Token)

/-- The projected attention output plus the normalised input. -/
def resid (c : Fin 1536) : EReal :=
  proj (fun k => num (T.cc k)) T.cs (fun k => P.wo k c) (P.so c) (P.bo c) + lnorm T.x P.g0 P.b0 c

/-- The attention half's result: the residual, normalised. -/
def h1 (c : Fin 1536) : EReal := lnorm (resid P T) P.g1 P.b1 c

/-- Its quantisation step. -/
def h1s : EReal := scale (amax (h1 P T))

/-- The inner layer's output, through GELU. -/
def f (n : Fin 6144) : EReal :=
  gelu (proj (fun k => level (h1 P T k) (h1s P T)) (h1s P T) (fun k => P.w1 k n) (P.s1 n) (P.bf1 n))

/-- Its quantisation step. -/
def fs : EReal := scale (amax (f P T))

/-- The layer's result before quantisation. -/
def h2 (c : Fin 1536) : EReal :=
  lnorm (fun l => proj (fun k => level (f P T k) (fs P T)) (fs P T) (fun k => P.w2 k l) (P.s2 l) (P.bf2 l) + h1 P T l)
    P.g2 P.b2 c

/-- Its quantisation step. -/
def h2s : EReal := scale (amax (h2 P T))

/-! ## A code is its level -/

/-- Rounding to the nearest even integer gives an integer, or is infinite on an infinity. -/
theorem liftRound_cases (v : EReal) : Ideal.liftRound Ideal.roundHalfEven v = ⊥ ∨ Ideal.liftRound Ideal.roundHalfEven v = ⊤
    ∨ ∃ z : ℤ, Ideal.liftRound Ideal.roundHalfEven v = ((z : ℝ) : EReal) := by
  induction v using EReal.rec with
  | bot => exact Or.inl rfl
  | top => exact Or.inr (Or.inl rfl)
  | coe x => exact Or.inr (Or.inr ⟨_, rfl⟩)

/-- The float constant 127 is the number. -/
theorem bits127 : Ideal.ofBits .f32 0x42FE0000#32 = ((127 : ℝ) : EReal) := by
  simp [Ideal.ofBits, Ideal.ieee, -EReal.coe_mul]; norm_num

/-- The float constant -127 is the number. -/
theorem bits127n : Ideal.ofBits .f32 0xC2FE0000#32 = ((-127 : ℝ) : EReal) := by
  simp [Ideal.ofBits, Ideal.ieee, -EReal.coe_mul]; norm_num

/-- A level is an integer between -127 and 127. -/
theorem level_int (v s : EReal) : ∃ z : ℤ, -127 ≤ z ∧ z ≤ 127 ∧ level v s = ((z : ℝ) : EReal) := by
  unfold level
  rw [bits127, bits127n]
  rcases liftRound_cases (Ideal.div v s) with h | h | ⟨z, h⟩
  · refine ⟨-127, by norm_num, by norm_num, ?_⟩
    rw [h, max_eq_left bot_le, min_eq_right (by exact_mod_cast (by norm_num : (-127 : ℝ) ≤ 127))]
    norm_num
  · refine ⟨127, by norm_num, by norm_num, ?_⟩
    rw [h, max_eq_right le_top, min_eq_left le_top]
    norm_num
  · refine ⟨min 127 (max (-127) z), by omega, by omega, ?_⟩
    have mono : Monotone fun i : ℤ => ((i : ℝ) : EReal) :=
      fun a b hab => EReal.coe_le_coe_iff.2 (Int.cast_le.2 hab)
    have e1 : (((min 127 (max (-127) z) : ℤ) : ℝ) : EReal) = min (((127 : ℤ) : ℝ) : EReal) ((((max (-127) z : ℤ)) : ℝ) : EReal) :=
      mono.map_min
    have e2 : (((max (-127) z : ℤ) : ℝ) : EReal) = max (((-127 : ℤ) : ℝ) : EReal) ((z : ℝ) : EReal) := mono.map_max
    rw [h, e1, e2]
    simp only [Int.cast_neg, Int.cast_ofNat]

/-- A code read back as a number is its level: rounding toward zero leaves an integer, and a byte holds
    the integers from -127 to 127. -/
theorem num_code (v s : EReal) : num (code v s) = level v s := by
  obtain ⟨z, h1, h2, h⟩ := level_int v s
  show (((Ideal.fptosi 8 (level v s)).toInt : ℝ) : EReal) = level v s
  rw [h]
  have e : Ideal.toIntClamped (-(2 ^ (8 - 1) : Nat)) ((2 ^ (8 - 1) : Nat) - 1) ((z : ℝ) : EReal) = z := by
    show max _ (min _ (if 0 ≤ (z : ℝ) then ⌊(z : ℝ)⌋ else ⌈(z : ℝ)⌉)) = z
    rw [Int.floor_intCast, Int.ceil_intCast, ite_self]
    norm_num
    omega
  rw [Ideal.fptosi, e, BitVec.toInt_ofInt]
  have : z.bmod (2 ^ 8) = z := by
    rw [Int.bmod_eq_of_le] <;> omega
  rw [this]

end Cert.Rows
-- ==== Proof.KernelVals.lean ====
/- What one grid point of the kernel computes, row by row: the plain mathematics of `Spec` at the token of
   that row. -/
module

public import Idealize.ShloMosaic.Lib.Pipeline.ValueKit.Tiles
public import proofs.«01_k».proof.Proof.TowerDefs
public import proofs.«01_k».proof.Proof.Spec

@[expose] public section

noncomputable section

namespace Cert.FfnIdeal.Block

open Cert.FfnIdeal Cert.FfnIdeal.Gen Idealize.ShloMosaic Idealize.ShloMosaic.TcCoe Idealize.SL.Sem

/-- The parameters among what the body reads. -/
def prm (L : Loads) : Rows.Params where
  g0 k := L.g0 (ix2 0 k)
  b0 k := L.b0 (ix2 0 k)
  wo k l := L.wo (ix2 k l)
  so k := L.so (ix2 0 k)
  bo k := L.bo (ix2 0 k)
  g1 k := L.g1 (ix2 0 k)
  b1 k := L.b1 (ix2 0 k)
  w1 k n := L.w1 ⟨n.val / 512, by omega⟩ (ix2 k ⟨n.val % 512, by omega⟩)
  s1 n := L.s1 ⟨n.val / 512, by omega⟩ (ix2 0 ⟨n.val % 512, by omega⟩)
  bf1 n := L.bf1 ⟨n.val / 512, by omega⟩ (ix2 0 ⟨n.val % 512, by omega⟩)
  w2 k l := L.w2 (ix2 k l)
  s2 k := L.s2 (ix2 0 k)
  bf2 k := L.bf2 (ix2 0 k)
  g2 k := L.g2 (ix2 0 k)
  b2 k := L.b2 (ix2 0 k)

/-- The token of row `r` among what the body reads. -/
def tok (L : Loads) (r : Fin 256) : Rows.Token where
  cc c := if h : r.val < 128 then L.ccA (ix3 0 c ⟨r.val, h⟩) else L.ccB (ix3 0 c ⟨r.val - 128, by omega⟩)
  cs := L.cs (ix3 0 0 r)
  x k := L.x (ix2 r k)

variable (L : Loads) (r : Fin 256)

/-! ## The attention half -/

/-- A step laid out as a row is itself. -/
theorem pay4 (v : Vec Ideal S1x1x256 .f32) : k0_pay4 v (ix2 0 r) = v (ix3 0 0 r) := by
  pointwise [k0_pay4]

/-- A gain laid out as a row is itself. -/
theorem pay5 (v : Vec Ideal S1x1536 .f32) (c : Fin 1536) : k0_pay5 v (ix2 0 c) = v (ix2 0 c) := by
  pointwise [k0_pay5]

/-- An offset laid out as a row is itself. -/
theorem pay6 (v : Vec Ideal S1x1536 .f32) (c : Fin 1536) : k0_pay6 v (ix2 0 c) = v (ix2 0 c) := by
  pointwise [k0_pay6]

/-- The residual the body forms is the token's. -/
theorem resid_eq (c : Fin 1536) :
    resid (fun k => xn L (ix2 r k)) (fun k => k0_pay3 L.ccA L.ccB (ix2 r k)) (k0_pay4 L.cs (ix2 0 r)) (fun k l => L.wo (ix2 k l))
      (fun k => L.so (ix2 0 k)) (fun k => L.bo (ix2 0 k)) c = Rows.resid (prm L) (tok L r) c := by
  have e1 : (fun k => k0_pay3 L.ccA L.ccB (ix2 r k)) = fun k => Rows.num ((tok L r).cc k) := funext fun k => pay3 _ _ r k
  have e2 : xn L (ix2 r c) = Rows.lnorm (tok L r).x (prm L).g0 (prm L).b0 c := pay2 _ _ _ r c
  show Rows.proj _ _ _ _ _ + xn L (ix2 r c) = _
  rw [e1, e2, pay4]
  rfl

/-- The attention half's result is the token's. -/
theorem h1_eq (c : Fin 1536) : h1 L (ix2 r c) = Rows.h1 (prm L) (tok L r) c := by
  have e := funext (resid_eq L r)
  show k0_pay9 _ _ (cen L) (dv L) (ix2 r c) = _
  rw [pay9, pay5, pay6]
  unfold cen dv
  rw [pay7, pay8, e]
  rfl

/-- Its step is the token's. -/
theorem hs_eq : hs L (ix2 r 0) = Rows.h1s (prm L) (tok L r) := by
  show k0_pay10 _ _ (cen L) (dv L) (ix2 r 0) = _
  rw [pay10]
  exact congrArg (fun v => Rows.scale (Rows.amax v)) (funext (h1_eq L r))

/-- Its codes as numbers are the token's levels. -/
theorem hq_eq (k : Fin 1536) :
    hq L (ix2 r k) = Rows.level (Rows.h1 (prm L) (tok L r) k) (Rows.h1s (prm L) (tok L r)) := by
  show k0_pay14 _ _ (cen L) (dv L) (ix2 r k) = _
  rw [pay14]
  exact congrArg₂ Rows.level (h1_eq L r k) (hs_eq L r)

/-! ## The inner layer -/

/-- A chunk holds its 512 columns of the inner layer. -/
theorem ck_eq (j : Fin 12) (c : Fin 512) :
    ck L j (ix2 r c) = Rows.f (prm L) (tok L r) ⟨512 * j.val + c.val, by omega⟩ := by
  show k0_pay30 (hs L) (hq L) _ _ _ (ix2 r c) = _
  rw [chunk, hs_eq, funext (hq_eq L r)]
  have e1 : (⟨(512 * j.val + c.val) / 512, by omega⟩ : Fin 12) = j := Fin.ext (by show (512 * j.val + c.val) / 512 = j.val; omega)
  have e2 : (⟨(512 * j.val + c.val) % 512, by omega⟩ : Fin 512) = c := Fin.ext (by show (512 * j.val + c.val) % 512 = c.val; omega)
  show _ = Rows.gelu (Rows.proj _ _ (fun k => L.w1 ⟨(512 * j.val + c.val) / 512, _⟩ (ix2 k ⟨(512 * j.val + c.val) % 512, _⟩))
    (L.s1 ⟨(512 * j.val + c.val) / 512, _⟩ (ix2 0 ⟨(512 * j.val + c.val) % 512, _⟩))
    (L.bf1 ⟨(512 * j.val + c.val) / 512, _⟩ (ix2 0 ⟨(512 * j.val + c.val) % 512, _⟩)))
  rw [e1, e2]

/-- A lane's maximum after a chunk is at most `b` iff it was before and the lane's four columns of the chunk are. -/
theorem lanes_le (a : FVec Ideal S256x128 .f32) (v : FVec Ideal S256x512 .f32) (l : Fin 128) (b : EReal) :
    lanes a v (ix2 r l) ≤ b ↔ a (ix2 r l) ≤ b
      ∧ ∀ q : Fin 4, FloatOps.absf (F := Ideal) (φ := .f32) (v (ix2 r ⟨128 * q.val + l.val, by omega⟩)) ≤ b := by
  have e : lanes a v (ix2 r l) = max (max (max (max (a (ix2 r l))
      (FloatOps.absf (F := Ideal) (φ := .f32) (v (ix2 r ⟨128 * 0 + l.val, by omega⟩))))
      (FloatOps.absf (F := Ideal) (φ := .f32) (v (ix2 r ⟨128 * 1 + l.val, by omega⟩))))
      (FloatOps.absf (F := Ideal) (φ := .f32) (v (ix2 r ⟨128 * 2 + l.val, by omega⟩))))
      (FloatOps.absf (F := Ideal) (φ := .f32) (v (ix2 r ⟨128 * 3 + l.val, by omega⟩))) := by
    pointwise [lanes]
  rw [e]
  simp only [max_le_iff, and_assoc]
  refine and_congr_right fun _ => ⟨fun h q => ?_, fun h => ⟨h 0, h 1, h 2, h 3⟩⟩
  match q with
  | 0 => exact h.1
  | 1 => exact h.2.1
  | 2 => exact h.2.2.1
  | 3 => exact h.2.2.2

/-- An absolute value is not negative. -/
theorem abs_nonneg (x : EReal) : 0 ≤ FloatOps.absf (F := Ideal) (φ := .f32) x := by
  show 0 ≤ max x (-x)
  rcases le_total 0 x with h | h
  · exact le_max_of_le_left h
  · exact le_max_of_le_right (EReal.neg_nonneg.mpr h)

/-- The largest over the lanes of the lane-wise maxima is the largest absolute value of the whole row. -/
theorem amax_eq :
    (Finset.univ.fold max (Ideal.ofBits .f32 0xFF800000#32) fun l => lanes (am L) (ck L 11) (ix2 r l))
      = Rows.amax (Rows.f (prm L) (tok L r)) := by
  refine eq_of_forall_ge_iff fun b => ?_
  have z : ∀ l : Fin 128, (k0_pay15 : FVec Ideal S256x128 .f32) (ix2 r l) = 0 := fun l => by
    pointwise [k0_pay15]
  unfold Rows.amax
  rw [Finset.fold_max_le, Finset.fold_max_le]
  refine and_congr_right fun _ => ?_
  simp only [Finset.mem_univ, true_implies, am, lanes_le, z, ck_eq]
  constructor
  · intro h n
    have hn : 512 * (n.val / 512) + (128 * (n.val % 512 / 128) + n.val % 128) = n.val := by omega
    have hl := h ⟨n.val % 128, by omega⟩
    have key : ∀ j : Fin 12, ∀ q : Fin 4, FloatOps.absf (F := Ideal) (φ := .f32)
        (Rows.f (prm L) (tok L r) ⟨512 * j.val + (128 * q.val + n.val % 128), by omega⟩) ≤ b := by
      intro j
      match j with
      | 0 => exact hl.1.1.1.1.1.1.1.1.1.1.1.2
      | 1 => exact hl.1.1.1.1.1.1.1.1.1.1.2
      | 2 => exact hl.1.1.1.1.1.1.1.1.1.2
      | 3 => exact hl.1.1.1.1.1.1.1.1.2
      | 4 => exact hl.1.1.1.1.1.1.1.2
      | 5 => exact hl.1.1.1.1.1.1.2
      | 6 => exact hl.1.1.1.1.1.2
      | 7 => exact hl.1.1.1.1.2
      | 8 => exact hl.1.1.1.2
      | 9 => exact hl.1.1.2
      | 10 => exact hl.1.2
      | 11 => exact hl.2
    have k := key ⟨n.val / 512, by omega⟩ ⟨n.val % 512 / 128, by omega⟩
    have e : (⟨512 * (n.val / 512) + (128 * (n.val % 512 / 128) + n.val % 128), by omega⟩ : Fin 6144) = n := Fin.ext hn
    rw [← e]
    exact k
  · intro h l
    have h0 : (0 : EReal) ≤ b := (abs_nonneg _).trans (h 0)
    exact ⟨⟨⟨⟨⟨⟨⟨⟨⟨⟨⟨⟨h0, fun q => h _⟩, fun q => h _⟩, fun q => h _⟩, fun q => h _⟩, fun q => h _⟩, fun q => h _⟩, fun q => h _⟩,
      fun q => h _⟩, fun q => h _⟩, fun q => h _⟩, fun q => h _⟩, fun q => h _⟩

/-- The second quantisation's step is the token's. -/
theorem fs_eq : fs L (ix2 r 0) = Rows.fs (prm L) (tok L r) := by
  unfold fs
  rw [pay62]
  exact congrArg Rows.scale (amax_eq L r)

/-! ## The blocks the scratch holds -/

/-- Twelve blocks of 512 columns put in place, at an index. -/
theorem tiles_apply {e : EltTy} (P : Fin 12 → S256x512.Idx → Elt Ideal e) (n : Fin 6144) :
    View.canon (Val := Elt Ideal) (tiles P) (ix2 r n) = P ⟨n.val / 512, by omega⟩ (ix2 r ⟨n.val % 512, by omega⟩) := by
  have key : ∀ (j : Fin 12) (x : S256x512.Idx), r.val = (x 0).val → n.val = 512 * j.val + (x 1).val →
      P j x = P ⟨n.val / 512, by omega⟩ (ix2 r ⟨n.val % 512, by omega⟩) := by
    intro j x h0 h1
    have hx : (x 1).val < 512 := (x 1).isLt
    have e1 : j = ⟨n.val / 512, by omega⟩ := Fin.ext (by show j.val = n.val / 512; omega)
    have e2 : x = ix2 r ⟨n.val % 512, by omega⟩ := by
      funext a
      match a with
      | 0 => exact Fin.ext (by show (x 0).val = r.val; omega)
      | 1 => exact Fin.ext (by show (x 1).val = n.val % 512; omega)
    exact congr (congrArg P e1) e2
  unfold tiles
  canon_tiles x h
  · exact key 11 x h0 h1
  · exact key 10 x h0 h1
  · exact key 9 x h0 h1
  · exact key 8 x h0 h1
  · exact key 7 x h0 h1
  · exact key 6 x h0 h1
  · exact key 5 x h0 h1
  · exact key 4 x h0 h1
  · exact key 3 x h0 h1
  · exact key 2 x h0 h1
  · exact key 1 x h0 h1
  · exact key 0 x h0 (h1.trans (Nat.zero_add _).symm)

/-- A block at an offset reads there what the tiles hold. -/
theorem tiles_read {e : EltTy} (v : View sig .tc .vmem S256x6144 e) (P : Fin 12 → S256x512.Idx → Elt Ideal e) (o : ℕ)
    (inb : ∀ a, (![0, o] : Fin 2 → ℕ) a + S256x512.size a ≤ S256x6144.size a) (j : Fin 12) (c : Fin 512) (h : o = 512 * j.val) :
    v.readCov (Val := Elt Ideal) (tiles P) (Rect.unit (s := S256x6144) ![0, o] S256x512.size inb).toLoadRect (ix2 r c) = P j (ix2 r c) := by
  rw [View.readCov_eq_canon']
  have e : (Rect.unit (s := S256x6144) ![0, o] S256x512.size inb).toLoadRect.idx (ix2 r c)
      = ix2 r (⟨512 * j.val + c.val, by omega⟩ : Fin 6144) := by
    funext a
    match a with
    | 0 => exact Fin.ext (by show 0 + 1 * r.val = r.val; omega)
    | 1 => exact Fin.ext (by show o + 1 * c.val = 512 * j.val + c.val; omega)
  show View.canon (tiles P) ((Rect.unit (s := S256x6144) ![0, o] S256x512.size inb).toLoadRect.idx (ix2 r c)) = _
  rw [e, tiles_apply]
  have e1 : (⟨(512 * j.val + c.val) / 512, by omega⟩ : Fin 12) = j := Fin.ext (by show (512 * j.val + c.val) / 512 = j.val; omega)
  have e2 : (⟨(512 * j.val + c.val) % 512, by omega⟩ : Fin 512) = c := Fin.ext (by show (512 * j.val + c.val) % 512 = c.val; omega)
  show P ⟨(512 * j.val + c.val) / 512, _⟩ (ix2 r ⟨(512 * j.val + c.val) % 512, _⟩) = _
  rw [e1, e2]

/-- What holds of each of twelve things holds of each one picked from their list. -/
theorem pick {α : Type} (a0 a1 a2 a3 a4 a5 a6 a7 a8 a9 a10 a11 : α) (j : Fin 12) (Q : Fin 12 → α → Prop)
    (h0 : Q 0 a0) (h1 : Q 1 a1) (h2 : Q 2 a2) (h3 : Q 3 a3) (h4 : Q 4 a4) (h5 : Q 5 a5) (h6 : Q 6 a6) (h7 : Q 7 a7) (h8 : Q 8 a8) (h9 : Q 9 a9) (h10 : Q 10 a10) (h11 : Q 11 a11) :
    Q j ((![a0, a1, a2, a3, a4, a5, a6, a7, a8, a9, a10, a11] : Fin 12 → α) j) := by
  match j with
  | 0 => exact h0
  | 1 => exact h1
  | 2 => exact h2
  | 3 => exact h3
  | 4 => exact h4
  | 5 => exact h5
  | 6 => exact h6
  | 7 => exact h7
  | 8 => exact h8
  | 9 => exact h9
  | 10 => exact h10
  | 11 => exact h11

/-- The twelve blocks read back one by one are the blocks. -/
theorem tiles_rows (v : View sig .tc .vmem S256x6144 .f32) (P : Fin 12 → S256x512.Idx → EReal) (j : Fin 12) (c : Fin 512) :
    (![v.readCov (Val := Elt Ideal) (tiles P) (Rect.unit (s := S256x6144) ![0, 0] S256x512.size inb_S256x6144_S256x512_0_0).toLoadRect,
      v.readCov (Val := Elt Ideal) (tiles P) (Rect.unit (s := S256x6144) ![0, 512] S256x512.size inb_S256x6144_S256x512_0_512).toLoadRect,
      v.readCov (Val := Elt Ideal) (tiles P) (Rect.unit (s := S256x6144) ![0, 1024] S256x512.size inb_S256x6144_S256x512_0_1024).toLoadRect,
      v.readCov (Val := Elt Ideal) (tiles P) (Rect.unit (s := S256x6144) ![0, 1536] S256x512.size inb_S256x6144_S256x512_0_1536).toLoadRect,
      v.readCov (Val := Elt Ideal) (tiles P) (Rect.unit (s := S256x6144) ![0, 2048] S256x512.size inb_S256x6144_S256x512_0_2048).toLoadRect,
      v.readCov (Val := Elt Ideal) (tiles P) (Rect.unit (s := S256x6144) ![0, 2560] S256x512.size inb_S256x6144_S256x512_0_2560).toLoadRect,
      v.readCov (Val := Elt Ideal) (tiles P) (Rect.unit (s := S256x6144) ![0, 3072] S256x512.size inb_S256x6144_S256x512_0_3072).toLoadRect,
      v.readCov (Val := Elt Ideal) (tiles P) (Rect.unit (s := S256x6144) ![0, 3584] S256x512.size inb_S256x6144_S256x512_0_3584).toLoadRect,
      v.readCov (Val := Elt Ideal) (tiles P) (Rect.unit (s := S256x6144) ![0, 4096] S256x512.size inb_S256x6144_S256x512_0_4096).toLoadRect,
      v.readCov (Val := Elt Ideal) (tiles P) (Rect.unit (s := S256x6144) ![0, 4608] S256x512.size inb_S256x6144_S256x512_0_4608).toLoadRect,
      v.readCov (Val := Elt Ideal) (tiles P) (Rect.unit (s := S256x6144) ![0, 5120] S256x512.size inb_S256x6144_S256x512_0_5120).toLoadRect,
      v.readCov (Val := Elt Ideal) (tiles P) (Rect.unit (s := S256x6144) ![0, 5632] S256x512.size inb_S256x6144_S256x512_0_5632).toLoadRect] : Fin 12 → S256x512.Idx → EReal) j (ix2 r c) = P j (ix2 r c) := by
  refine pick (α := S256x512.Idx → EReal) _ _ _ _ _ _ _ _ _ _ _ _ j (fun j w => w (ix2 r c) = P j (ix2 r c)) ?_ ?_ ?_ ?_ ?_ ?_ ?_ ?_ ?_ ?_ ?_ ?_
  · exact tiles_read r v P 0 _ 0 c rfl
  · exact tiles_read r v P 512 _ 1 c rfl
  · exact tiles_read r v P 1024 _ 2 c rfl
  · exact tiles_read r v P 1536 _ 3 c rfl
  · exact tiles_read r v P 2048 _ 4 c rfl
  · exact tiles_read r v P 2560 _ 5 c rfl
  · exact tiles_read r v P 3072 _ 6 c rfl
  · exact tiles_read r v P 3584 _ 7 c rfl
  · exact tiles_read r v P 4096 _ 8 c rfl
  · exact tiles_read r v P 4608 _ 9 c rfl
  · exact tiles_read r v P 5120 _ 10 c rfl
  · exact tiles_read r v P 5632 _ 11 c rfl

/-- What is read back of a chunk is the chunk. -/
theorem rb_eq (v : View sig .tc .vmem S256x6144 .f32) (j : Fin 12) (c : Fin 512) :
    rb L v j (ix2 r c) = Rows.f (prm L) (tok L r) ⟨512 * j.val + c.val, by omega⟩ :=
  (tiles_rows r v (fun j => shapeCast S256x512 (ck L j) shapeCasts_S256x512_S256x512) j c).trans
    ((congrFun (shapeCast_self (ck L j) _) _).trans (ck_eq L r j c))

/-- A column's chunk and place in it name the column. -/
theorem col_eq (n : Fin 6144) : (⟨512 * (n.val / 512) + n.val % 512, by omega⟩ : Fin 6144) = n :=
  Fin.ext (Nat.div_add_mod _ _)

/-- What is read back of the second quantisation are its levels. -/
theorem qb_eq (v : View sig .tc .vmem S256x6144 .f32) (u : View sig .tc .vmem S256x6144 .bf16) (n : Fin 6144) :
    qb L v u (ix2 r n) = Rows.level (Rows.f (prm L) (tok L r) n) (Rows.fs (prm L) (tok L r)) := by
  unfold qb
  rw [View.readCov_eq_canon']
  have e : (Rect.unit (s := S256x6144) ![0, 0] S256x6144.size inb_S256x6144_S256x6144_0_0).toLoadRect.idx (ix2 r n) = ix2 r n := by
    funext a
    match a with
    | 0 => exact Fin.ext (by show 0 + 1 * r.val = r.val; omega)
    | 1 => exact Fin.ext (by show 0 + 1 * n.val = n.val; omega)
  show View.canon (Val := Elt Ideal) (tiles (e := .bf16) _) ((Rect.unit (s := S256x6144) ![0, 0] S256x6144.size inb_S256x6144_S256x6144_0_0).toLoadRect.idx (ix2 r n)) = _
  rw [e, tiles_apply, pay68, rb_eq, fs_eq]
  exact congrArg₂ Rows.level (congrArg _ (col_eq n)) rfl

/-- The second quantisation's codes, as put in place. -/
theorem fcodes_eq (v : View sig .tc .vmem S256x6144 .f32) (n : Fin 6144) :
    View.canon (Val := Elt Ideal) (tiles (e := .i8) fun j => k0_pay67 (fs L) (rb L v j)) (ix2 r n)
      = Rows.code (Rows.f (prm L) (tok L r) n) (Rows.fs (prm L) (tok L r)) := by
  rw [tiles_apply, pay67, rb_eq, fs_eq]
  exact congrArg₂ Rows.code (congrArg _ (col_eq n)) rfl

/-! ## The outer layer, and what is written -/

/-- The result is the token's. -/
theorem h2_eq (v : View sig .tc .vmem S256x6144 .f32) (u : View sig .tc .vmem S256x6144 .bf16) (c : Fin 1536) :
    h2 L v u (ix2 r c) = Rows.h2 (prm L) (tok L r) c := by
  unfold h2
  rw [pay102, fs_eq, funext (qb_eq L r v u)]
  simp only [h1_eq]
  rfl

/-- Its step. -/
theorem h2s_eq (v : View sig .tc .vmem S256x6144 .f32) (u : View sig .tc .vmem S256x6144 .bf16) :
    k0_pay103 (h2 L v u) (ix2 r 0) = Rows.h2s (prm L) (tok L r) := by
  rw [pay103, funext (h2_eq L r v u)]
  rfl

/-- Its codes. -/
theorem out19 (v : View sig .tc .vmem S256x6144 .f32) (u : View sig .tc .vmem S256x6144 .bf16) (c : Fin 1536) :
    k0_pay104 (h2 L v u) (ix2 r c) = Rows.code (Rows.h2 (prm L) (tok L r) c) (Rows.h2s (prm L) (tok L r)) := by
  rw [pay104, h2s_eq, h2_eq]

/-- Its steps as written. -/
theorem out20 (v : View sig .tc .vmem S256x6144 .f32) (u : View sig .tc .vmem S256x6144 .bf16) :
    k0_pay1 (k0_pay105 (h2 L v u)) (ix3 0 0 r) = Rows.h2s (prm L) (tok L r) := by
  rw [pay105, h2s_eq]

/-- The attention half's codes as written. -/
theorem out22 (c : Fin 1536) :
    k0_pay12 (k0_pay5 L.g1) (k0_pay6 L.b1) (cen L) (dv L) (ix2 r c)
      = Rows.code (Rows.h1 (prm L) (tok L r) c) (Rows.h1s (prm L) (tok L r)) := by
  rw [pay12]
  exact congrArg₂ Rows.code (h1_eq L r c) (hs_eq L r)

/-- The attention half's steps as written. -/
theorem out23 :
    k0_pay13 (k0_pay5 L.g1) (k0_pay6 L.b1) (cen L) (dv L) (ix3 0 0 r) = Rows.h1s (prm L) (tok L r) := by
  rw [pay13]
  exact hs_eq L r

/-- The second quantisation's steps as written. -/
theorem out25 :
    k0_pay65 (k0_pay63 (am L) (k0_pay58 (hq L) (L.w1 11)) (k0_pay59 (hs L)) (L.s1 11) (L.bf1 11))
        (k0_pay64 (am L) (k0_pay58 (hq L) (L.w1 11)) (k0_pay59 (hs L)) (L.s1 11) (L.bf1 11)) (ix3 0 0 r)
      = Rows.fs (prm L) (tok L r) := by
  rw [pay65]
  exact fs_eq L r

end Cert.FfnIdeal.Block
-- ==== Proof.Reads.lean ====
/- The values the body reads at grid point `t`, as elements of the program's arguments: the parameters are the
   same at every point, and the 256 tokens are tokens `256 t` to `256 t + 255`. -/
module

public import proofs.«01_k».proof.Proof.Raw
public import proofs.«01_k».proof.Proof.KernelVals
public import Idealize.ShloMosaic.Lib.Pipeline.ValueKit

@[expose] public section

set_option maxRecDepth 16384

noncomputable section

namespace Cert.FfnIdeal.Block

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- The layer's parameters, from the program's arguments. -/
def args (c : Dev nD) : Rows.Params where
  g0 k := m ((c : Thread nD τ).loc main_arg3) (ix1 k)
  b0 k := m ((c : Thread nD τ).loc main_arg4) (ix1 k)
  wo k l := m ((c : Thread nD τ).loc main_arg5) (ix3 ⟨k.val / 64, by omega⟩ ⟨k.val % 64, by omega⟩ l)
  so k := m ((c : Thread nD τ).loc main_arg6) (ix1 k)
  bo k := m ((c : Thread nD τ).loc main_arg7) (ix1 k)
  g1 k := m ((c : Thread nD τ).loc main_arg14) (ix1 k)
  b1 k := m ((c : Thread nD τ).loc main_arg15) (ix1 k)
  w1 k n := m ((c : Thread nD τ).loc main_arg8) (ix2 k n)
  s1 n := m ((c : Thread nD τ).loc main_arg9) (ix1 n)
  bf1 n := m ((c : Thread nD τ).loc main_arg10) (ix1 n)
  w2 k l := m ((c : Thread nD τ).loc main_arg11) (ix2 k l)
  s2 k := m ((c : Thread nD τ).loc main_arg12) (ix1 k)
  bf2 k := m ((c : Thread nD τ).loc main_arg13) (ix1 k)
  g2 k := m ((c : Thread nD τ).loc main_arg16) (ix1 k)
  b2 k := m ((c : Thread nD τ).loc main_arg17) (ix1 k)

/-- Token `n`, from the program's arguments: 640 tokens make one of the 16 sequences. -/
def token (c : Dev nD) (n : Fin 10240) : Rows.Token where
  cc k := m ((c : Thread nD τ).loc main_arg0) (ix3 ⟨n.val / 640, by omega⟩ k ⟨n.val % 640, by omega⟩)
  cs := m ((c : Thread nD τ).loc main_arg1) (ix3 ⟨n.val / 640, by omega⟩ 0 ⟨n.val % 640, by omega⟩)
  x k := m ((c : Thread nD τ).loc main_arg2) (ix3 ⟨n.val / 640, by omega⟩ ⟨n.val % 640, by omega⟩ k)

/-- Where the windows' blocks sit. -/
theorem idxs : ∀ t : Fin cfg0.N, win0_0.index t = ![(2 * t.val) / 5, 0, (2 * t.val) % 5]
    ∧ win0_1.index t = ![(2 * t.val + 1) / 5, 0, (2 * t.val + 1) % 5]
    ∧ win0_2.index t = ![t.val, 0, 0] ∧ win0_3.index t = ![t.val, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0] ∧ win0_17.index t = ![0, 0]
    ∧ win0_18.index t = ![0, 0] :=
  (by decide +kernel : ∀ t : Fin grid0.N, _)

/-- A load of a whole block is the block. -/
theorem whole_load {S : Shape} {e : EltTy} {sp : Space} (w : Memref sig .tc sp S e) (h : w.IsWhole) (off : Fin S.rank → ℕ)
    (inb : ∀ a, off a + S.size a ≤ S.size a) (hz : ∀ a, off a = 0) (X : S.Idx → Elt Ideal e) :
    View.readAt (Elt Ideal) w.view (Rect.unit off S.size inb).toLoadRect (h.unread X) = X := by
  rw [View.readAt_eq_ld, Memref.IsWhole.read_unread, View.ld_unit_lit _ _ hz]

theorem raw_ccA (c : Dev nD) (t : Fin cfg0.N) : (raw m c t).ccA = iblk m c 0 t :=
  whole_load (ms0_0 t) (hs0_0 t) ![0, 0, 0] _ (by decide) _

theorem raw_ccB (c : Dev nD) (t : Fin cfg0.N) : (raw m c t).ccB = iblk m c 1 t :=
  whole_load (ms0_1 t) (hs0_1 t) ![0, 0, 0] _ (by decide) _

theorem raw_cs (c : Dev nD) (t : Fin cfg0.N) : (raw m c t).cs = iblk m c 2 t :=
  whole_load (ms0_2 t) (hs0_2 t) ![0, 0, 0] _ (by decide) _

theorem raw_x (c : Dev nD) (t : Fin cfg0.N) : (raw m c t).x = iblk m c 3 t :=
  whole_load (ms0_3 t) (hs0_3 t) ![0, 0] _ (by decide) _

theorem raw_g0 (c : Dev nD) (t : Fin cfg0.N) : (raw m c t).g0 = iblk m c 4 t :=
  whole_load (ms0_4 t) (hs0_4 t) ![0, 0] _ (by decide) _

theorem raw_b0 (c : Dev nD) (t : Fin cfg0.N) : (raw m c t).b0 = iblk m c 5 t :=
  whole_load (ms0_5 t) (hs0_5 t) ![0, 0] _ (by decide) _

theorem raw_wo (c : Dev nD) (t : Fin cfg0.N) : (raw m c t).wo = iblk m c 6 t :=
  whole_load (ms0_6 t) (hs0_6 t) ![0, 0] _ (by decide) _

theorem raw_so (c : Dev nD) (t : Fin cfg0.N) : (raw m c t).so = iblk m c 7 t :=
  whole_load (ms0_7 t) (hs0_7 t) ![0, 0] _ (by decide) _

theorem raw_bo (c : Dev nD) (t : Fin cfg0.N) : (raw m c t).bo = iblk m c 8 t :=
  whole_load (ms0_8 t) (hs0_8 t) ![0, 0] _ (by decide) _

theorem raw_g1 (c : Dev nD) (t : Fin cfg0.N) : (raw m c t).g1 = iblk m c 9 t :=
  whole_load (ms0_9 t) (hs0_9 t) ![0, 0] _ (by decide) _

theorem raw_b1 (c : Dev nD) (t : Fin cfg0.N) : (raw m c t).b1 = iblk m c 10 t :=
  whole_load (ms0_10 t) (hs0_10 t) ![0, 0] _ (by decide) _

theorem raw_w2 (c : Dev nD) (t : Fin cfg0.N) : (raw m c t).w2 = iblk m c 14 t :=
  whole_load (ms0_14 t) (hs0_14 t) ![0, 0] _ (by decide) _

theorem raw_s2 (c : Dev nD) (t : Fin cfg0.N) : (raw m c t).s2 = iblk m c 15 t :=
  whole_load (ms0_15 t) (hs0_15 t) ![0, 0] _ (by decide) _

theorem raw_bf2 (c : Dev nD) (t : Fin cfg0.N) : (raw m c t).bf2 = iblk m c 16 t :=
  whole_load (ms0_16 t) (hs0_16 t) ![0, 0] _ (by decide) _

theorem raw_g2 (c : Dev nD) (t : Fin cfg0.N) : (raw m c t).g2 = iblk m c 17 t :=
  whole_load (ms0_17 t) (hs0_17 t) ![0, 0] _ (by decide) _

theorem raw_b2 (c : Dev nD) (t : Fin cfg0.N) : (raw m c t).b2 = iblk m c 18 t :=
  whole_load (ms0_18 t) (hs0_18 t) ![0, 0] _ (by decide) _

theorem g0_eq (c : Dev nD) (t : Fin cfg0.N) (k : Fin 1536) : (raw m c t).g0 (ix2 0 k) = (args m c).g0 k := by
  rw [raw_g0]
  unfold args
  dsimp only
  blk_simp [iblk]
  entry_read
  pointwise
  blk_ext [idxs t]

theorem b0_eq (c : Dev nD) (t : Fin cfg0.N) (k : Fin 1536) : (raw m c t).b0 (ix2 0 k) = (args m c).b0 k := by
  rw [raw_b0]
  unfold args
  dsimp only
  blk_simp [iblk]
  entry_read
  pointwise
  blk_ext [idxs t]

theorem so_eq (c : Dev nD) (t : Fin cfg0.N) (k : Fin 1536) : (raw m c t).so (ix2 0 k) = (args m c).so k := by
  rw [raw_so]
  unfold args
  dsimp only
  blk_simp [iblk]
  entry_read
  pointwise
  blk_ext [idxs t]

theorem bo_eq (c : Dev nD) (t : Fin cfg0.N) (k : Fin 1536) : (raw m c t).bo (ix2 0 k) = (args m c).bo k := by
  rw [raw_bo]
  unfold args
  dsimp only
  blk_simp [iblk]
  entry_read
  pointwise
  blk_ext [idxs t]

theorem g1_eq (c : Dev nD) (t : Fin cfg0.N) (k : Fin 1536) : (raw m c t).g1 (ix2 0 k) = (args m c).g1 k := by
  rw [raw_g1]
  unfold args
  dsimp only
  blk_simp [iblk]
  entry_read
  pointwise
  blk_ext [idxs t]

theorem b1_eq (c : Dev nD) (t : Fin cfg0.N) (k : Fin 1536) : (raw m c t).b1 (ix2 0 k) = (args m c).b1 k := by
  rw [raw_b1]
  unfold args
  dsimp only
  blk_simp [iblk]
  entry_read
  pointwise
  blk_ext [idxs t]

theorem s2_eq (c : Dev nD) (t : Fin cfg0.N) (k : Fin 1536) : (raw m c t).s2 (ix2 0 k) = (args m c).s2 k := by
  rw [raw_s2]
  unfold args
  dsimp only
  blk_simp [iblk]
  entry_read
  pointwise
  blk_ext [idxs t]

theorem bf2_eq (c : Dev nD) (t : Fin cfg0.N) (k : Fin 1536) : (raw m c t).bf2 (ix2 0 k) = (args m c).bf2 k := by
  rw [raw_bf2]
  unfold args
  dsimp only
  blk_simp [iblk]
  entry_read
  pointwise
  blk_ext [idxs t]

theorem g2_eq (c : Dev nD) (t : Fin cfg0.N) (k : Fin 1536) : (raw m c t).g2 (ix2 0 k) = (args m c).g2 k := by
  rw [raw_g2]
  unfold args
  dsimp only
  blk_simp [iblk]
  entry_read
  pointwise
  blk_ext [idxs t]

theorem b2_eq (c : Dev nD) (t : Fin cfg0.N) (k : Fin 1536) : (raw m c t).b2 (ix2 0 k) = (args m c).b2 k := by
  rw [raw_b2]
  unfold args
  dsimp only
  blk_simp [iblk]
  entry_read
  pointwise
  blk_ext [idxs t]

theorem wo_eq (c : Dev nD) (t : Fin cfg0.N) (k l : Fin 1536) : (raw m c t).wo (ix2 k l) = (args m c).wo k l := by
  rw [raw_wo]
  unfold args
  dsimp only
  blk_simp [iblk]
  entry_read
  pointwise
  blk_ext [idxs t]

theorem w2_eq (c : Dev nD) (t : Fin cfg0.N) (k : Fin 6144) (l : Fin 1536) : (raw m c t).w2 (ix2 k l) = (args m c).w2 k l := by
  rw [raw_w2]
  unfold args
  dsimp only
  blk_ext [iblk, V_main_arg11, idxs t]

theorem x_eq (c : Dev nD) (t : Fin cfg0.N) (r : Fin 256) (k : Fin 1536) (h : 256 * t.val + r.val < 10240) :
    (raw m c t).x (ix2 r k) = (token m c ⟨256 * t.val + r.val, h⟩).x k := by
  rw [raw_x]
  unfold token
  dsimp only
  blk_simp [iblk]
  entry_read
  pointwise
  blk_ext [idxs t]

theorem cs_eq (c : Dev nD) (t : Fin cfg0.N) (r : Fin 256) (h : 256 * t.val + r.val < 10240) :
    (raw m c t).cs (ix3 0 0 r) = (token m c ⟨256 * t.val + r.val, h⟩).cs := by
  rw [raw_cs]
  unfold token
  dsimp only
  blk_simp [iblk]
  entry_read
  pointwise
  blk_ext [idxs t]

theorem ccA_eq (c : Dev nD) (t : Fin cfg0.N) (k : Fin 1536) (r : Fin 128) (h : 256 * t.val + r.val < 10240) :
    (raw m c t).ccA (ix3 0 k r) = (token m c ⟨256 * t.val + r.val, h⟩).cc k := by
  rw [raw_ccA]
  unfold token
  dsimp only
  blk_ext [iblk, V_main_arg0, idxs t]

theorem ccB_eq (c : Dev nD) (t : Fin cfg0.N) (k : Fin 1536) (r : Fin 128) (h : 256 * t.val + (r.val + 128) < 10240) :
    (raw m c t).ccB (ix3 0 k r) = (token m c ⟨256 * t.val + (r.val + 128), h⟩).cc k := by
  rw [raw_ccB]
  unfold token
  dsimp only
  blk_ext [iblk, V_main_arg0, idxs t]

/-- A load of 512 columns of a whole block reads them. -/
theorem cols_load {n : ℕ} {e : EltTy} {sp : Space} (w : Memref sig .tc sp ⟨2, ![n, 6144]⟩ e) (h : w.IsWhole) (o : ℕ) (j : Fin 12)
    (ho : o = 512 * j.val)
    (inb : ∀ a, (![0, o] : Fin 2 → ℕ) a + (⟨2, ![n, 512]⟩ : Shape).size a ≤ (⟨2, ![n, 6144]⟩ : Shape).size a)
    (X : (⟨2, ![n, 6144]⟩ : Shape).Idx → Elt Ideal e) (k : Fin n) (l : Fin 512) :
    View.readAt (Elt Ideal) w.view (Rect.unit (s := ⟨2, ![n, 6144]⟩) ![0, o] (⟨2, ![n, 512]⟩ : Shape).size inb).toLoadRect (h.unread X) (ix2 k l)
      = X (ix2 k ⟨512 * j.val + l.val, by omega⟩) := by
  subst ho
  rw [View.readAt_eq_ld, Memref.IsWhole.read_unread]
  refine congrArg X (funext fun a => Fin.ext ?_)
  match a with
  | ⟨0, _⟩ => show 0 + 1 * k.val = k.val; omega
  | ⟨1, _⟩ => show 512 * j.val + 1 * l.val = 512 * j.val + l.val; omega

theorem raw_w1 (c : Dev nD) (t : Fin cfg0.N) (j : Fin 12) (k : Fin 1536) (l : Fin 512) :
    (raw m c t).w1 j (ix2 k l) = iblk m c 11 t (ix2 k (⟨512 * j.val + l.val, by omega⟩ : Fin 6144)) :=
  pick _ _ _ _ _ _ _ _ _ _ _ _ j
    (fun j (a : (⟨2, ![1536, 512]⟩ : Shape).Idx → Elt Ideal .i8) =>
      ∀ (k : Fin 1536) (l : Fin 512), a (ix2 k l) = iblk m c 11 t (ix2 k (⟨512 * j.val + l.val, by omega⟩ : Fin 6144)))
    (fun k l => cols_load (ms0_11 t) (hs0_11 t) 0 0 rfl _ _ k l)
    (fun k l => cols_load (ms0_11 t) (hs0_11 t) 512 1 rfl _ _ k l)
    (fun k l => cols_load (ms0_11 t) (hs0_11 t) 1024 2 rfl _ _ k l)
    (fun k l => cols_load (ms0_11 t) (hs0_11 t) 1536 3 rfl _ _ k l)
    (fun k l => cols_load (ms0_11 t) (hs0_11 t) 2048 4 rfl _ _ k l)
    (fun k l => cols_load (ms0_11 t) (hs0_11 t) 2560 5 rfl _ _ k l)
    (fun k l => cols_load (ms0_11 t) (hs0_11 t) 3072 6 rfl _ _ k l)
    (fun k l => cols_load (ms0_11 t) (hs0_11 t) 3584 7 rfl _ _ k l)
    (fun k l => cols_load (ms0_11 t) (hs0_11 t) 4096 8 rfl _ _ k l)
    (fun k l => cols_load (ms0_11 t) (hs0_11 t) 4608 9 rfl _ _ k l)
    (fun k l => cols_load (ms0_11 t) (hs0_11 t) 5120 10 rfl _ _ k l)
    (fun k l => cols_load (ms0_11 t) (hs0_11 t) 5632 11 rfl _ _ k l) k l

theorem raw_s1 (c : Dev nD) (t : Fin cfg0.N) (j : Fin 12) (k : Fin 1) (l : Fin 512) :
    (raw m c t).s1 j (ix2 k l) = iblk m c 12 t (ix2 k (⟨512 * j.val + l.val, by omega⟩ : Fin 6144)) :=
  pick _ _ _ _ _ _ _ _ _ _ _ _ j
    (fun j (a : (⟨2, ![1, 512]⟩ : Shape).Idx → Elt Ideal .f32) =>
      ∀ (k : Fin 1) (l : Fin 512), a (ix2 k l) = iblk m c 12 t (ix2 k (⟨512 * j.val + l.val, by omega⟩ : Fin 6144)))
    (fun k l => cols_load (ms0_12 t) (hs0_12 t) 0 0 rfl _ _ k l)
    (fun k l => cols_load (ms0_12 t) (hs0_12 t) 512 1 rfl _ _ k l)
    (fun k l => cols_load (ms0_12 t) (hs0_12 t) 1024 2 rfl _ _ k l)
    (fun k l => cols_load (ms0_12 t) (hs0_12 t) 1536 3 rfl _ _ k l)
    (fun k l => cols_load (ms0_12 t) (hs0_12 t) 2048 4 rfl _ _ k l)
    (fun k l => cols_load (ms0_12 t) (hs0_12 t) 2560 5 rfl _ _ k l)
    (fun k l => cols_load (ms0_12 t) (hs0_12 t) 3072 6 rfl _ _ k l)
    (fun k l => cols_load (ms0_12 t) (hs0_12 t) 3584 7 rfl _ _ k l)
    (fun k l => cols_load (ms0_12 t) (hs0_12 t) 4096 8 rfl _ _ k l)
    (fun k l => cols_load (ms0_12 t) (hs0_12 t) 4608 9 rfl _ _ k l)
    (fun k l => cols_load (ms0_12 t) (hs0_12 t) 5120 10 rfl _ _ k l)
    (fun k l => cols_load (ms0_12 t) (hs0_12 t) 5632 11 rfl _ _ k l) k l

theorem raw_bf1 (c : Dev nD) (t : Fin cfg0.N) (j : Fin 12) (k : Fin 1) (l : Fin 512) :
    (raw m c t).bf1 j (ix2 k l) = iblk m c 13 t (ix2 k (⟨512 * j.val + l.val, by omega⟩ : Fin 6144)) :=
  pick _ _ _ _ _ _ _ _ _ _ _ _ j
    (fun j (a : (⟨2, ![1, 512]⟩ : Shape).Idx → Elt Ideal .f32) =>
      ∀ (k : Fin 1) (l : Fin 512), a (ix2 k l) = iblk m c 13 t (ix2 k (⟨512 * j.val + l.val, by omega⟩ : Fin 6144)))
    (fun k l => cols_load (ms0_13 t) (hs0_13 t) 0 0 rfl _ _ k l)
    (fun k l => cols_load (ms0_13 t) (hs0_13 t) 512 1 rfl _ _ k l)
    (fun k l => cols_load (ms0_13 t) (hs0_13 t) 1024 2 rfl _ _ k l)
    (fun k l => cols_load (ms0_13 t) (hs0_13 t) 1536 3 rfl _ _ k l)
    (fun k l => cols_load (ms0_13 t) (hs0_13 t) 2048 4 rfl _ _ k l)
    (fun k l => cols_load (ms0_13 t) (hs0_13 t) 2560 5 rfl _ _ k l)
    (fun k l => cols_load (ms0_13 t) (hs0_13 t) 3072 6 rfl _ _ k l)
    (fun k l => cols_load (ms0_13 t) (hs0_13 t) 3584 7 rfl _ _ k l)
    (fun k l => cols_load (ms0_13 t) (hs0_13 t) 4096 8 rfl _ _ k l)
    (fun k l => cols_load (ms0_13 t) (hs0_13 t) 4608 9 rfl _ _ k l)
    (fun k l => cols_load (ms0_13 t) (hs0_13 t) 5120 10 rfl _ _ k l)
    (fun k l => cols_load (ms0_13 t) (hs0_13 t) 5632 11 rfl _ _ k l) k l

theorem w1_eq (c : Dev nD) (t : Fin cfg0.N) (k : Fin 1536) (n : Fin 6144) : iblk m c 11 t (ix2 k n) = (args m c).w1 k n := by
  unfold args
  dsimp only
  blk_ext [iblk, V_main_arg8, idxs t]

theorem s1_eq (c : Dev nD) (t : Fin cfg0.N) (n : Fin 6144) : iblk m c 12 t (ix2 0 n) = (args m c).s1 n := by
  unfold args
  dsimp only
  blk_simp [iblk]
  entry_read
  pointwise
  blk_ext [idxs t]

theorem bf1_eq (c : Dev nD) (t : Fin cfg0.N) (n : Fin 6144) : iblk m c 13 t (ix2 0 n) = (args m c).bf1 n := by
  unfold args
  dsimp only
  blk_simp [iblk]
  entry_read
  pointwise
  blk_ext [idxs t]

end Cert.FfnIdeal.Block
-- ==== Proof.Tokens.lean ====
/- The parameters and the tokens of one grid point's loads are those of the program's arguments. -/
module

public import proofs.«01_k».proof.Proof.Reads

@[expose] public section

set_option maxRecDepth 16384

noncomputable section

namespace Cert.FfnIdeal.Block

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- Two sets of parameters with equal fields are equal. -/
theorem params_ext {P Q : Rows.Params} (h1 : P.g0 = Q.g0) (h2 : P.b0 = Q.b0) (h3 : P.wo = Q.wo) (h4 : P.so = Q.so)
    (h5 : P.bo = Q.bo) (h6 : P.g1 = Q.g1) (h7 : P.b1 = Q.b1) (h8 : P.w1 = Q.w1) (h9 : P.s1 = Q.s1) (h10 : P.bf1 = Q.bf1)
    (h11 : P.w2 = Q.w2) (h12 : P.s2 = Q.s2) (h13 : P.bf2 = Q.bf2) (h14 : P.g2 = Q.g2) (h15 : P.b2 = Q.b2) : P = Q := by
  cases P; cases Q; simp_all

/-- Two tokens with equal fields are equal. -/
theorem token_ext {T U : Rows.Token} (h1 : T.cc = U.cc) (h2 : T.cs = U.cs) (h3 : T.x = U.x) : T = U := by
  cases T; cases U; simp_all

theorem w1_col (c : Dev nD) (t : Fin cfg0.N) (k : Fin 1536) (j : Fin 12) (l : Fin 512) :
    (raw m c t).w1 j (ix2 k l) = (args m c).w1 k ⟨512 * j.val + l.val, by omega⟩ := by
  rw [raw_w1, w1_eq]

theorem w1_all (c : Dev nD) (t : Fin cfg0.N) (k : Fin 1536) (n : Fin 6144) : (prm (raw m c t)).w1 k n = (args m c).w1 k n := by
  have e : (⟨512 * (n.val / 512) + n.val % 512, by omega⟩ : Fin 6144) = n := Fin.ext (Nat.div_add_mod _ _)
  have h := w1_col m c t k ⟨n.val / 512, by omega⟩ ⟨n.val % 512, by omega⟩
  unfold prm
  dsimp only at h ⊢
  rw [h, e]

theorem s1_col (c : Dev nD) (t : Fin cfg0.N) (j : Fin 12) (l : Fin 512) :
    (raw m c t).s1 j (ix2 0 l) = (args m c).s1 ⟨512 * j.val + l.val, by omega⟩ := by
  rw [raw_s1, s1_eq]

theorem s1_all (c : Dev nD) (t : Fin cfg0.N) (n : Fin 6144) : (prm (raw m c t)).s1 n = (args m c).s1 n := by
  have e : (⟨512 * (n.val / 512) + n.val % 512, by omega⟩ : Fin 6144) = n := Fin.ext (Nat.div_add_mod _ _)
  have h := s1_col m c t ⟨n.val / 512, by omega⟩ ⟨n.val % 512, by omega⟩
  unfold prm
  dsimp only at h ⊢
  rw [h, e]

theorem bf1_col (c : Dev nD) (t : Fin cfg0.N) (j : Fin 12) (l : Fin 512) :
    (raw m c t).bf1 j (ix2 0 l) = (args m c).bf1 ⟨512 * j.val + l.val, by omega⟩ := by
  rw [raw_bf1, bf1_eq]

theorem bf1_all (c : Dev nD) (t : Fin cfg0.N) (n : Fin 6144) : (prm (raw m c t)).bf1 n = (args m c).bf1 n := by
  have e : (⟨512 * (n.val / 512) + n.val % 512, by omega⟩ : Fin 6144) = n := Fin.ext (Nat.div_add_mod _ _)
  have h := bf1_col m c t ⟨n.val / 512, by omega⟩ ⟨n.val % 512, by omega⟩
  unfold prm
  dsimp only at h ⊢
  rw [h, e]

/-- The parameters are the same at every grid point. -/
theorem prm_eq (c : Dev nD) (t : Fin cfg0.N) : prm (raw m c t) = args m c :=
  params_ext (funext fun k => g0_eq m c t k) (funext fun k => b0_eq m c t k) (funext fun k => funext fun l => wo_eq m c t k l)
    (funext fun k => so_eq m c t k) (funext fun k => bo_eq m c t k) (funext fun k => g1_eq m c t k) (funext fun k => b1_eq m c t k)
    (funext fun k => funext fun n => w1_all m c t k n) (funext fun n => s1_all m c t n) (funext fun n => bf1_all m c t n)
    (funext fun k => funext fun l => w2_eq m c t k l)
    (funext fun k => s2_eq m c t k) (funext fun k => bf2_eq m c t k) (funext fun k => g2_eq m c t k) (funext fun k => b2_eq m c t k)

/-- Row `r` of grid point `t` is token `256 t + r`. -/
theorem tok_eq (c : Dev nD) (t : Fin cfg0.N) (r : Fin 256) (h : 256 * t.val + r.val < 10240) :
    tok (raw m c t) r = token m c ⟨256 * t.val + r.val, h⟩ := by
  refine token_ext (funext fun k => ?_) (cs_eq m c t r h) (funext fun k => x_eq m c t r k h)
  show (if hr : r.val < 128 then (raw m c t).ccA (ix3 0 k ⟨r.val, hr⟩) else (raw m c t).ccB (ix3 0 k ⟨r.val - 128, by omega⟩)) = _
  split
  · next hr => exact ccA_eq m c t k ⟨r.val, hr⟩ h
  · next hr =>
    have e : r.val - 128 + 128 = r.val := by omega
    refine (ccB_eq m c t k ⟨r.val - 128, by omega⟩ (by show 256 * t.val + (r.val - 128 + 128) < 10240; omega)).trans ?_
    exact congrArg (fun n => (token m c n).cc k) (Fin.ext (by show 256 * t.val + (r.val - 128 + 128) = 256 * t.val + r.val; omega))

end Cert.FfnIdeal.Block
-- ==== Proof.KernelOut.lean ====
/- The kernel's seven result arrays, element by element. -/
module

public import proofs.«01_k».proof.Proof.Tower
public import proofs.«01_k».proof.Proof.Tokens

@[expose] public section

set_option maxRecDepth 16384

noncomputable section

namespace Cert.FfnIdeal.Block

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- Where the results' blocks sit. -/
theorem oidxs : ∀ t : Fin cfg0.N, win0_19.index t = ![t.val, 0] ∧ win0_20.index t = ![t.val, 0, 0]
    ∧ win0_21.index t = ![t.val, 0] ∧ win0_22.index t = ![t.val, 0] ∧ win0_23.index t = ![t.val, 0, 0]
    ∧ win0_24.index t = ![t.val, 0] ∧ win0_25.index t = ![t.val, 0, 0] :=
  (by decide +kernel : ∀ t : Fin grid0.N, _)

/-- Token `256 a + b`. -/
def tokenOf (c : Dev nD) (a : Fin 40) (b : Fin 256) : Rows.Token := token m c ⟨256 * a.val + b.val, by omega⟩

/-- A block's row of 1536 in the result. -/
theorem place1536 (c : Dev nD) (t : Fin cfg0.N) (r : Fin 256) (k : Fin 1536) (p : S10240x1536.Idx)
    (h0 : (p 0).val = t.val * 256 + r.val) (h1 : (p 1).val = k.val) :
    token m c (p 0) = tok (raw m c t) r ∧ p 1 = k := by
  have ht : t.val < 40 := t.isLt
  refine ⟨?_, Fin.ext h1⟩
  rw [tok_eq m c t r (by omega)]
  exact congrArg (token m c) (Fin.ext (by show (p 0).val = 256 * t.val + r.val; omega))

/-- A block's row of 6144 in the result. -/
theorem place6144 (c : Dev nD) (t : Fin cfg0.N) (r : Fin 256) (k : Fin 6144) (p : S10240x6144.Idx)
    (h0 : (p 0).val = t.val * 256 + r.val) (h1 : (p 1).val = k.val) :
    token m c (p 0) = tok (raw m c t) r ∧ p 1 = k := by
  have ht : t.val < 40 := t.isLt
  refine ⟨?_, Fin.ext h1⟩
  rw [tok_eq m c t r (by omega)]
  exact congrArg (token m c) (Fin.ext (by show (p 0).val = 256 * t.val + r.val; omega))

/-- A block's step in the result. -/
theorem placeStep (c : Dev nD) (t : Fin cfg0.N) (r : Fin 256) (p : S40x1x256.Idx)
    (h0 : (p 0).val = t.val) (h2 : (p 2).val = r.val) : tokenOf m c (p 0) (p 2) = tok (raw m c t) r := by
  have ht : t.val < 40 := t.isLt
  rw [tok_eq m c t r (by omega)]
  exact congrArg (token m c) (Fin.ext (by show 256 * (p 0).val + (p 2).val = 256 * t.val + r.val; omega))

/-- The codes of the result. -/
theorem arr19 (c : Dev nD) : (dats m 0 c).arrAt 19 cfg0.N = (fun i : S10240x1536.Idx => Rows.code (Rows.h2 (args m c) (token m c (i 0)) (i 1)) (Rows.h2s (args m c) (token m c (i 0)))) := by
  refine (dats m 0 c).arrAt_eq_of_covers 19 _ (by decide +kernel) fun t hf y => ?_
  obtain ⟨r, k, rfl⟩ : ∃ (r : Fin 256) (k : Fin 1536), y = (ix2 r k : S256x1536.Idx) :=
    ⟨y 0, y 1, funext fun a => match a with | 0 => rfl | 1 => rfl⟩
  have h0 : (((cfg0.win 19).blk t).view.emb (ix2 r k : S256x1536.Idx) 0).val = t.val * 256 + r.val := by
    blk_simp [oidxs t]
  have h1 : (((cfg0.win 19).blk t).view.emb (ix2 r k : S256x1536.Idx) 1).val = k.val := by
    blk_simp [oidxs t]
  obtain ⟨e0, e1⟩ := place1536 m c t r k _ h0 h1
  rw [left19]
  refine (out19 (raw m c t) r _ _ k).trans ?_
  rw [prm_eq, ← e0]
  dsimp only
  rw [e1]

/-- The result before quantisation. -/
theorem arr21 (c : Dev nD) : (dats m 0 c).arrAt 21 cfg0.N = (fun i : S10240x1536.Idx => Rows.h2 (args m c) (token m c (i 0)) (i 1)) := by
  refine (dats m 0 c).arrAt_eq_of_covers 21 _ (by decide +kernel) fun t hf y => ?_
  obtain ⟨r, k, rfl⟩ : ∃ (r : Fin 256) (k : Fin 1536), y = (ix2 r k : S256x1536.Idx) :=
    ⟨y 0, y 1, funext fun a => match a with | 0 => rfl | 1 => rfl⟩
  have h0 : (((cfg0.win 21).blk t).view.emb (ix2 r k : S256x1536.Idx) 0).val = t.val * 256 + r.val := by
    blk_simp [oidxs t]
  have h1 : (((cfg0.win 21).blk t).view.emb (ix2 r k : S256x1536.Idx) 1).val = k.val := by
    blk_simp [oidxs t]
  obtain ⟨e0, e1⟩ := place1536 m c t r k _ h0 h1
  rw [left21]
  refine (h2_eq (raw m c t) r _ _ k).trans ?_
  rw [prm_eq, ← e0]
  dsimp only
  rw [e1]

/-- The attention half's codes. -/
theorem arr22 (c : Dev nD) : (dats m 0 c).arrAt 22 cfg0.N = (fun i : S10240x1536.Idx => Rows.code (Rows.h1 (args m c) (token m c (i 0)) (i 1)) (Rows.h1s (args m c) (token m c (i 0)))) := by
  refine (dats m 0 c).arrAt_eq_of_covers 22 _ (by decide +kernel) fun t hf y => ?_
  obtain ⟨r, k, rfl⟩ : ∃ (r : Fin 256) (k : Fin 1536), y = (ix2 r k : S256x1536.Idx) :=
    ⟨y 0, y 1, funext fun a => match a with | 0 => rfl | 1 => rfl⟩
  have h0 : (((cfg0.win 22).blk t).view.emb (ix2 r k : S256x1536.Idx) 0).val = t.val * 256 + r.val := by
    blk_simp [oidxs t]
  have h1 : (((cfg0.win 22).blk t).view.emb (ix2 r k : S256x1536.Idx) 1).val = k.val := by
    blk_simp [oidxs t]
  obtain ⟨e0, e1⟩ := place1536 m c t r k _ h0 h1
  rw [left22]
  refine (out22 (raw m c t) r k).trans ?_
  rw [prm_eq, ← e0]
  dsimp only
  rw [e1]

set_option maxHeartbeats 4000000 in
/-- The second quantisation's codes. -/
theorem arr24 (c : Dev nD) : (dats m 0 c).arrAt 24 cfg0.N = (fun i : S10240x6144.Idx => Rows.code (Rows.f (args m c) (token m c (i 0)) (i 1)) (Rows.fs (args m c) (token m c (i 0)))) := by
  refine (dats m 0 c).arrAt_eq_of_covers 24 _ (by decide +kernel) fun t hf y => ?_
  obtain ⟨r, k, rfl⟩ : ∃ (r : Fin 256) (k : Fin 6144), y = (ix2 r k : S256x6144.Idx) :=
    ⟨y 0, y 1, funext fun a => match a with | 0 => rfl | 1 => rfl⟩
  have h0 : (((cfg0.win 24).blk t).view.emb (ix2 r k : S256x6144.Idx) 0).val = t.val * 256 + r.val := by
    blk_simp [oidxs t]
  have h1 : (((cfg0.win 24).blk t).view.emb (ix2 r k : S256x6144.Idx) 1).val = k.val := by
    blk_simp [oidxs t]
  obtain ⟨e0, e1⟩ := place6144 m c t r k _ h0 h1
  rw [left24]
  refine (fcodes_eq (raw m c t) r _ k).trans ?_
  rw [prm_eq, ← e0]
  dsimp only
  rw [e1]

/-- The result's steps. -/
theorem arr20 (c : Dev nD) : (dats m 0 c).arrAt 20 cfg0.N = (fun i : S40x1x256.Idx => Rows.h2s (args m c) (tokenOf m c (i 0) (i 2))) := by
  refine (dats m 0 c).arrAt_eq_of_covers 20 _ (by decide +kernel) fun t hf y => ?_
  obtain ⟨r, rfl⟩ : ∃ r : Fin 256, y = (ix3 0 0 r : S1x1x256.Idx) :=
    ⟨y 2, funext fun a => match a with | 0 => Fin.ext (Nat.lt_one_iff.1 (y 0).isLt) | 1 => Fin.ext (Nat.lt_one_iff.1 (y 1).isLt) | 2 => rfl⟩
  have h0 : (((cfg0.win 20).blk t).view.emb (ix3 0 0 r : S1x1x256.Idx) 0).val = t.val := by
    blk_simp [oidxs t]; rfl
  have h2 : (((cfg0.win 20).blk t).view.emb (ix3 0 0 r : S1x1x256.Idx) 2).val = r.val := by
    blk_simp [oidxs t]
  rw [left20]
  refine (out20 (raw m c t) r _ _).trans ?_
  rw [prm_eq, ← placeStep m c t r _ h0 h2]

/-- The attention half's steps. -/
theorem arr23 (c : Dev nD) : (dats m 0 c).arrAt 23 cfg0.N = (fun i : S40x1x256.Idx => Rows.h1s (args m c) (tokenOf m c (i 0) (i 2))) := by
  refine (dats m 0 c).arrAt_eq_of_covers 23 _ (by decide +kernel) fun t hf y => ?_
  obtain ⟨r, rfl⟩ : ∃ r : Fin 256, y = (ix3 0 0 r : S1x1x256.Idx) :=
    ⟨y 2, funext fun a => match a with | 0 => Fin.ext (Nat.lt_one_iff.1 (y 0).isLt) | 1 => Fin.ext (Nat.lt_one_iff.1 (y 1).isLt) | 2 => rfl⟩
  have h0 : (((cfg0.win 23).blk t).view.emb (ix3 0 0 r : S1x1x256.Idx) 0).val = t.val := by
    blk_simp [oidxs t]; rfl
  have h2 : (((cfg0.win 23).blk t).view.emb (ix3 0 0 r : S1x1x256.Idx) 2).val = r.val := by
    blk_simp [oidxs t]
  rw [left23]
  refine (out23 (raw m c t) r).trans ?_
  rw [prm_eq, ← placeStep m c t r _ h0 h2]

/-- The second quantisation's steps. -/
theorem arr25 (c : Dev nD) : (dats m 0 c).arrAt 25 cfg0.N = (fun i : S40x1x256.Idx => Rows.fs (args m c) (tokenOf m c (i 0) (i 2))) := by
  refine (dats m 0 c).arrAt_eq_of_covers 25 _ (by decide +kernel) fun t hf y => ?_
  obtain ⟨r, rfl⟩ : ∃ r : Fin 256, y = (ix3 0 0 r : S1x1x256.Idx) :=
    ⟨y 2, funext fun a => match a with | 0 => Fin.ext (Nat.lt_one_iff.1 (y 0).isLt) | 1 => Fin.ext (Nat.lt_one_iff.1 (y 1).isLt) | 2 => rfl⟩
  have h0 : (((cfg0.win 25).blk t).view.emb (ix3 0 0 r : S1x1x256.Idx) 0).val = t.val := by
    blk_simp [oidxs t]; rfl
  have h2 : (((cfg0.win 25).blk t).view.emb (ix3 0 0 r : S1x1x256.Idx) 2).val = r.val := by
    blk_simp [oidxs t]
  rw [left25]
  refine (out25 (raw m c t) r).trans ?_
  rw [prm_eq, ← placeStep m c t r _ h0 h2]

end Cert.FfnIdeal.Block
-- ==== Proof.RefRows.lean ====
/- What the reference computes, payload by payload, read at one token: the plain mathematics of `Spec`. -/
module

public import proofs.«01_k».proof.Proof.Gen.FfnRefIdeal.Skeleton
public import proofs.«01_k».proof.Proof.Spec

@[expose] public section

noncomputable section

namespace Cert.FfnRefIdeal.Whole

open Idealize.ShloMosaic Idealize.SL.Sem Cert.Rows Cert.FfnRefIdeal.Gen

/-- The step of a quantisation from the row's largest absolute value. -/
theorem step_of (a : FVec Ideal S10240x1 .f32) (r : Fin 10240) :
    (select (cmpf .oeq a (broadcast S10240x1 (Scalar.ofBits .f32 0x00000000#32)))
        (broadcast S10240x1 (Scalar.ofBits .f32 0x3F800000#32))
        (divf a (broadcast S10240x1 (Scalar.ofBits .f32 0x42FE0000#32)))
      : FVec Ideal S10240x1 .f32) (ix2 r 0) = scale (a (ix2 r 0)) := by
  pointwise
  rfl

/-- The largest absolute value of a row of 1536. -/
theorem amax1536 (v : FVec Ideal S10240x1536 .f32) (r : Fin 10240) :
    shapeCast S10240x1 (multiReduction .maximumf [1] S10240 (absf v) 0xFF800000#32 reduces_S10240x1536_S10240 (.inl rfl) rfl)
      shapeCasts_S10240_S10240x1 (ix2 r 0) = amax fun k => v (ix2 r k) := by
  pointwise
  rfl

/-- The largest absolute value of a row of 6144. -/
theorem amax6144 (v : FVec Ideal S10240x6144 .f32) (r : Fin 10240) :
    shapeCast S10240x1 (multiReduction .maximumf [1] S10240 (absf v) 0xFF800000#32 reduces_S10240x6144_S10240 (.inl rfl) rfl)
      shapeCasts_S10240_S10240x1 (ix2 r 0) = amax fun k => v (ix2 r k) := by
  pointwise
  rfl

/-- The codes of a quantisation by rows of 1536, from the values and their step. -/
theorem codes1536 (v : FVec Ideal S10240x1536 .f32) (s : FVec Ideal S10240x1 .f32) (r : Fin 10240) (c : Fin 1536) :
    (fptosi 8 (minimumf (broadcast S10240x1536 (Scalar.ofBits .f32 0x42FE0000#32))
        (maximumf (broadcast S10240x1536 (Scalar.ofBits .f32 0xC2FE0000#32))
          (roundeven (divf v (broadcastTo S10240x1536 s broadcasts_S10240x1_S10240x1536)))))
      : IVec S10240x1536 8) (ix2 r c) = code (v (ix2 r c)) (s (ix2 r 0)) := by
  pointwise
  rfl

/-- The codes of a quantisation by rows of 6144, from the values and their step. -/
theorem codes6144 (v : FVec Ideal S10240x6144 .f32) (s : FVec Ideal S10240x1 .f32) (r : Fin 10240) (c : Fin 6144) :
    (fptosi 8 (minimumf (broadcast S10240x6144 (Scalar.ofBits .f32 0x42FE0000#32))
        (maximumf (broadcast S10240x6144 (Scalar.ofBits .f32 0xC2FE0000#32))
          (roundeven (divf v (broadcastTo S10240x6144 s broadcasts_S10240x1_S10240x6144)))))
      : IVec S10240x6144 8) (ix2 r c) = code (v (ix2 r c)) (s (ix2 r 0)) := by
  pointwise
  rfl

/-- The layer's input, normalised. -/
theorem pay6 (x : Vec Ideal S10240x1536 .bf16) (g b : Vec Ideal S1x1536 .f32) (r : Fin 10240) (c : Fin 1536) :
    k0_pay6 x g b (ix2 r c) = lnorm (fun k => x (ix2 r k)) (fun k => g (ix2 0 k)) (fun k => b (ix2 0 k)) c := by
  pointwise [k0_pay6]
  rfl

/-- The attention half's result, from the parts the body computes first. -/
theorem pay12 (xn : FVec Ideal S10240x1536 .f32) (cs : FVec Ideal S10240x1 .f32) (ws bias : FVec Ideal S1x1536 .f32)
    (cc : FVec Ideal S10240x1536 .bf16) (w : FVec Ideal S1536x1536 .bf16) (g b : Vec Ideal S1x1536 .f32)
    (r : Fin 10240) (c : Fin 1536) :
    k0_pay12 xn cs ws bias cc w g b (ix2 r c)
      = lnorm (fun l => (∑ k, cc (ix2 r k) * w (ix2 k l)) * cs (ix2 r 0) * ws (ix2 0 l) + bias (ix2 0 l) + xn (ix2 r l))
          (fun k => g (ix2 0 k)) (fun k => b (ix2 0 k)) c := by
  pointwise [k0_pay12]
  rfl

/-- The first quantisation's step. -/
theorem pay13 (xn : FVec Ideal S10240x1536 .f32) (cs : FVec Ideal S10240x1 .f32) (ws bias : FVec Ideal S1x1536 .f32)
    (cc : FVec Ideal S10240x1536 .bf16) (w : FVec Ideal S1536x1536 .bf16) (g b : Vec Ideal S1x1536 .f32)
    (r : Fin 10240) :
    k0_pay13 xn cs ws bias cc w g b (ix2 r 0) = scale (amax fun k => k0_pay12 xn cs ws bias cc w g b (ix2 r k)) :=
  (step_of _ r).trans (congrArg scale (amax1536 (k0_pay12 xn cs ws bias cc w g b) r))

/-- The first quantisation's codes. -/
theorem pay15 (xn : FVec Ideal S10240x1536 .f32) (cs : FVec Ideal S10240x1 .f32) (ws bias : FVec Ideal S1x1536 .f32)
    (cc : FVec Ideal S10240x1536 .bf16) (w : FVec Ideal S1536x1536 .bf16) (g b : Vec Ideal S1x1536 .f32)
    (r : Fin 10240) (c : Fin 1536) :
    k0_pay15 (k0_pay14 xn cs ws bias cc w g b) (Scalar.ofBits .f32 0xC2FE0000#32) (Scalar.ofBits .f32 0x42FE0000#32) (ix2 r c)
      = code (k0_pay12 xn cs ws bias cc w g b (ix2 r c)) (k0_pay13 xn cs ws bias cc w g b (ix2 r 0)) :=
  codes1536 (k0_pay12 xn cs ws bias cc w g b) (k0_pay13 xn cs ws bias cc w g b) r c

/-- The inner layer's output, through GELU. -/
theorem pay16 (s : FVec Ideal S10240x1 .f32) (v : FVec Ideal S10240x1536 .f32) (lo hi : Ideal .f32)
    (w : Vec Ideal S1536x6144 .i8) (ws bias : Vec Ideal S1x6144 .f32) (r : Fin 10240) (n : Fin 6144) :
    k0_pay16 s v lo hi w ws bias (ix2 r n)
      = gelu (proj (fun k => num (k0_pay15 v lo hi (ix2 r k))) (s (ix2 r 0)) (fun k => w (ix2 k n)) (ws (ix2 0 n)) (bias (ix2 0 n))) := by
  pointwise [k0_pay16]
  rfl

/-- The second quantisation's step. -/
theorem pay17 (s : FVec Ideal S10240x1 .f32) (v : FVec Ideal S10240x1536 .f32) (lo hi : Ideal .f32)
    (w : Vec Ideal S1536x6144 .i8) (ws bias : Vec Ideal S1x6144 .f32) (r : Fin 10240) :
    k0_pay17 s v lo hi w ws bias (ix2 r 0) = scale (amax fun n => k0_pay16 s v lo hi w ws bias (ix2 r n)) :=
  (step_of _ r).trans (congrArg scale (amax6144 (k0_pay16 s v lo hi w ws bias) r))

/-- The second quantisation's codes. -/
theorem pay18 (s : FVec Ideal S10240x1 .f32) (v : FVec Ideal S10240x1536 .f32) (lo hi : Ideal .f32)
    (w : Vec Ideal S1536x6144 .i8) (ws bias : Vec Ideal S1x6144 .f32) (r : Fin 10240) (n : Fin 6144) :
    k0_pay18 s v lo hi w ws bias (ix2 r n)
      = code (k0_pay16 s v lo hi w ws bias (ix2 r n)) (k0_pay17 s v lo hi w ws bias (ix2 r 0)) :=
  codes6144 (k0_pay16 s v lo hi w ws bias) (k0_pay17 s v lo hi w ws bias) r n

/-- The layer's result before quantisation. -/
theorem pay19 (h : FVec Ideal S10240x1536 .f32) (s : FVec Ideal S10240x1 .f32) (q : IVec S10240x6144 8)
    (w : Vec Ideal S6144x1536 .i8) (ws bias g b : Vec Ideal S1x1536 .f32) (r : Fin 10240) (c : Fin 1536) :
    k0_pay19 h s q w ws bias g b (ix2 r c)
      = lnorm (fun l => proj (fun k => num (q (ix2 r k))) (s (ix2 r 0)) (fun k => w (ix2 k l)) (ws (ix2 0 l)) (bias (ix2 0 l))
          + h (ix2 r l)) (fun k => g (ix2 0 k)) (fun k => b (ix2 0 k)) c := by
  pointwise [k0_pay19]
  rfl

/-- The last quantisation's step. -/
theorem pay1 (h : FVec Ideal S10240x1536 .f32) (s : FVec Ideal S10240x1 .f32) (q : IVec S10240x6144 8)
    (w : Vec Ideal S6144x1536 .i8) (ws bias g b : Vec Ideal S1x1536 .f32) (r : Fin 10240) :
    k0_pay1 (k0_pay20 h s q w ws bias g b) (Scalar.ofBits .f32 0x00000000#32) (ix2 r 0)
      = scale (amax fun k => k0_pay19 h s q w ws bias g b (ix2 r k)) :=
  (step_of _ r).trans (congrArg scale (amax1536 (k0_pay19 h s q w ws bias g b) r))

/-- The last quantisation's codes. -/
theorem pay2 (x : FVec Ideal S10240x1536 .f32) (a : FVec Ideal S10240x1 .f32) (z : Ideal .f32)
    (r : Fin 10240) (c : Fin 1536) :
    k0_pay2 x a z (ix2 r c) = code (x (ix2 r c)) (k0_pay1 a z (ix2 r 0)) :=
  codes1536 x (k0_pay1 a z) r c

/-- A column of 10240 steps laid out as 40 rows of 256. -/
theorem relaid (v : FVec Ideal S10240x1 .f32) (a : Fin 40) (b : Fin 256) :
    shapeCast S40x1x256 v shapeCasts_S10240x1_S40x1x256 (ix3 a 0 b) = v (ix2 ⟨256 * a.val + b.val, by omega⟩ 0) := by
  refine shapeCast_apply v _ _ _ ?_
  rw [Shape.rowMajor_val_three, Shape.rowMajor_val_two]
  show (256 * a.val + b.val) * 1 + 0 = (a.val * 1 + 0) * 256 + b.val
  omega

end Cert.FfnRefIdeal.Whole
-- ==== Proof.RefVals.lean ====
/- What the reference's one grid point computes, over the blocks it reads: for every token the plain
   mathematics of `Spec`. -/
module

public import proofs.«01_k».proof.Proof.RefRows

@[expose] public section

set_option maxRecDepth 16384

noncomputable section

namespace Cert.FfnRefIdeal.Whole

open Idealize.ShloMosaic Idealize.SL.Sem Cert.FfnRefIdeal.Gen

/-- The blocks the body reads. -/
structure Blocks where
  /-- The attention output's codes. -/
  cc : Vec Ideal S10240x1536 .i8
  /-- The tokens' steps. -/
  cs : Vec Ideal S10240x1 .f32
  /-- The layer's input. -/
  x : Vec Ideal S10240x1536 .bf16
  /-- Gain of the first normalisation. -/
  g0 : Vec Ideal S1x1536 .f32
  /-- Its offset. -/
  b0 : Vec Ideal S1x1536 .f32
  /-- The attention's output weights. -/
  wo : Vec Ideal S1536x1536 .i8
  /-- Their columns' scales. -/
  so : Vec Ideal S1x1536 .f32
  /-- Their bias. -/
  bo : Vec Ideal S1x1536 .f32
  /-- The inner layer's weights. -/
  w1 : Vec Ideal S1536x6144 .i8
  /-- Their columns' scales. -/
  s1 : Vec Ideal S1x6144 .f32
  /-- Their bias. -/
  bf1 : Vec Ideal S1x6144 .f32
  /-- The outer layer's weights. -/
  w2 : Vec Ideal S6144x1536 .i8
  /-- Their columns' scales. -/
  s2 : Vec Ideal S1x1536 .f32
  /-- Their bias. -/
  bf2 : Vec Ideal S1x1536 .f32
  /-- Gain of the second normalisation. -/
  g1 : Vec Ideal S1x1536 .f32
  /-- Its offset. -/
  b1 : Vec Ideal S1x1536 .f32
  /-- Gain of the last normalisation. -/
  g2 : Vec Ideal S1x1536 .f32
  /-- Its offset. -/
  b2 : Vec Ideal S1x1536 .f32

/-- The parameters among the blocks. -/
def prm (B : Blocks) : Rows.Params where
  g0 k := B.g0 (ix2 0 k)
  b0 k := B.b0 (ix2 0 k)
  wo k l := B.wo (ix2 k l)
  so k := B.so (ix2 0 k)
  bo k := B.bo (ix2 0 k)
  g1 k := B.g1 (ix2 0 k)
  b1 k := B.b1 (ix2 0 k)
  w1 k n := B.w1 (ix2 k n)
  s1 n := B.s1 (ix2 0 n)
  bf1 n := B.bf1 (ix2 0 n)
  w2 k l := B.w2 (ix2 k l)
  s2 k := B.s2 (ix2 0 k)
  bf2 k := B.bf2 (ix2 0 k)
  g2 k := B.g2 (ix2 0 k)
  b2 k := B.b2 (ix2 0 k)

/-- The token of row `r` among the blocks. -/
def tok (B : Blocks) (r : Fin 10240) : Rows.Token where
  cc c := B.cc (ix2 r c)
  cs := B.cs (ix2 r 0)
  x k := B.x (ix2 r k)

variable (B : Blocks) (r : Fin 10240)

/-- The attention half's result. -/
def h1 : FVec Ideal S10240x1536 .f32 :=
  k0_pay12 (k0_pay6 B.x B.g0 B.b0) (k0_pay7 B.cs) (k0_pay8 B.so) (k0_pay9 B.bo) (k0_pay10 B.cc) (k0_pay11 B.wo) B.g1 B.b1
/-- Its step. -/
def hs : FVec Ideal S10240x1 .f32 :=
  k0_pay13 (k0_pay6 B.x B.g0 B.b0) (k0_pay7 B.cs) (k0_pay8 B.so) (k0_pay9 B.bo) (k0_pay10 B.cc) (k0_pay11 B.wo) B.g1 B.b1
/-- Its quotient by the step, rounded. -/
def hr : FVec Ideal S10240x1536 .f32 :=
  k0_pay14 (k0_pay6 B.x B.g0 B.b0) (k0_pay7 B.cs) (k0_pay8 B.so) (k0_pay9 B.bo) (k0_pay10 B.cc) (k0_pay11 B.wo) B.g1 B.b1
/-- Its codes. -/
def hc : IVec S10240x1536 8 := k0_pay15 (hr B) (Scalar.ofBits .f32 0xC2FE0000#32) (Scalar.ofBits .f32 0x42FE0000#32)
/-- The inner layer's step. -/
def fs : FVec Ideal S10240x1 .f32 :=
  k0_pay17 (hs B) (hr B) (Scalar.ofBits .f32 0xC2FE0000#32) (Scalar.ofBits .f32 0x42FE0000#32) B.w1 B.s1 B.bf1
/-- The inner layer's codes. -/
def fc : IVec S10240x6144 8 :=
  k0_pay18 (hs B) (hr B) (Scalar.ofBits .f32 0xC2FE0000#32) (Scalar.ofBits .f32 0x42FE0000#32) B.w1 B.s1 B.bf1
/-- The layer's result before quantisation. -/
def h2 : FVec Ideal S10240x1536 .f32 := k0_pay19 (h1 B) (fs B) (fc B) B.w2 B.s2 B.bf2 B.g2 B.b2
/-- The largest absolute value of each of its rows. -/
def ha : FVec Ideal S10240x1 .f32 := k0_pay20 (h1 B) (fs B) (fc B) B.w2 B.s2 B.bf2 B.g2 B.b2

theorem pay7 (v : Vec Ideal S10240x1 .f32) : k0_pay7 v = v := shapeCast_self v _
theorem pay8 (v : Vec Ideal S1x1536 .f32) : k0_pay8 v = v := shapeCast_self v _
theorem pay9 (v : Vec Ideal S1x1536 .f32) : k0_pay9 v = v := shapeCast_self v _

theorem pay10 (v : Vec Ideal S10240x1536 .i8) (c : Fin 1536) : k0_pay10 v (ix2 r c) = Rows.num (v (ix2 r c)) := by
  pointwise [k0_pay10]
  rfl

theorem pay11 (v : Vec Ideal S1536x1536 .i8) (k c : Fin 1536) : k0_pay11 v (ix2 k c) = Rows.num (v (ix2 k c)) := by
  pointwise [k0_pay11]
  rfl

theorem h1_eq (c : Fin 1536) : h1 B (ix2 r c) = Rows.h1 (prm B) (tok B r) c := by
  unfold h1
  rw [pay12]
  refine congrArg (fun v => Rows.lnorm v (prm B).g1 (prm B).b1 c) (funext fun l => ?_)
  rw [pay6, pay7, pay8, pay9]
  simp only [pay10, pay11]
  rfl

theorem hs_eq : hs B (ix2 r 0) = Rows.h1s (prm B) (tok B r) :=
  (pay13 _ _ _ _ _ _ _ _ r).trans (congrArg (fun v => Rows.scale (Rows.amax v)) (funext fun k => h1_eq B r k))

theorem hc_eq (c : Fin 1536) : hc B (ix2 r c) = Rows.code (Rows.h1 (prm B) (tok B r) c) (Rows.h1s (prm B) (tok B r)) :=
  (pay15 _ _ _ _ _ _ _ _ r c).trans (congrArg₂ Rows.code (h1_eq B r c) (hs_eq B r))

theorem f_eq (n : Fin 6144) :
    k0_pay16 (hs B) (hr B) (Scalar.ofBits .f32 0xC2FE0000#32) (Scalar.ofBits .f32 0x42FE0000#32) B.w1 B.s1 B.bf1 (ix2 r n)
      = Rows.f (prm B) (tok B r) n := by
  rw [pay16, hs_eq]
  refine congrArg (fun a => Rows.gelu (Rows.proj a (Rows.h1s (prm B) (tok B r)) (fun k => (prm B).w1 k n) ((prm B).s1 n) ((prm B).bf1 n)))
    (funext fun k => ?_)
  exact (congrArg Rows.num (hc_eq B r k)).trans (Rows.num_code _ _)

theorem fs_eq : fs B (ix2 r 0) = Rows.fs (prm B) (tok B r) :=
  (pay17 _ _ _ _ _ _ _ r).trans (congrArg (fun v => Rows.scale (Rows.amax v)) (funext fun n => f_eq B r n))

theorem fc_eq (n : Fin 6144) : fc B (ix2 r n) = Rows.code (Rows.f (prm B) (tok B r) n) (Rows.fs (prm B) (tok B r)) :=
  (pay18 _ _ _ _ _ _ _ r n).trans (congrArg₂ Rows.code (f_eq B r n) (fs_eq B r))

theorem h2_eq (c : Fin 1536) : h2 B (ix2 r c) = Rows.h2 (prm B) (tok B r) c := by
  unfold h2
  rw [pay19]
  refine congrArg (fun v => Rows.lnorm v (prm B).g2 (prm B).b2 c) (funext fun l => ?_)
  rw [fs_eq, h1_eq]
  refine congrArg (fun a => Rows.proj a (Rows.fs (prm B) (tok B r)) (fun k => (prm B).w2 k l) ((prm B).s2 l) ((prm B).bf2 l)
    + Rows.h1 (prm B) (tok B r) l) (funext fun k => ?_)
  exact (congrArg Rows.num (fc_eq B r k)).trans (Rows.num_code _ _)

theorem h2s_eq : k0_pay1 (ha B) (Scalar.ofBits .f32 0x00000000#32) (ix2 r 0) = Rows.h2s (prm B) (tok B r) :=
  (pay1 _ _ _ _ _ _ _ _ r).trans (congrArg (fun v => Rows.scale (Rows.amax v)) (funext fun k => h2_eq B r k))

theorem out18 (c : Fin 1536) : k0_pay2 (h2 B) (ha B) (Scalar.ofBits .f32 0x00000000#32) (ix2 r c)
    = Rows.code (Rows.h2 (prm B) (tok B r) c) (Rows.h2s (prm B) (tok B r)) := by
  rw [pay2, h2_eq, h2s_eq]

theorem out19 (a : Fin 40) (b : Fin 256) : k0_pay3 (ha B) (Scalar.ofBits .f32 0x00000000#32) (ix3 a 0 b)
    = Rows.h2s (prm B) (tok B ⟨256 * a.val + b.val, by omega⟩) :=
  by unfold k0_pay3; rw [relaid, h2s_eq]

theorem out22 (a : Fin 40) (b : Fin 256) : k0_pay4 (hs B) (ix3 a 0 b)
    = Rows.h1s (prm B) (tok B ⟨256 * a.val + b.val, by omega⟩) :=
  by unfold k0_pay4; rw [relaid, hs_eq]

theorem out24 (a : Fin 40) (b : Fin 256) : k0_pay5 (fs B) (ix3 a 0 b)
    = Rows.fs (prm B) (tok B ⟨256 * a.val + b.val, by omega⟩) :=
  by unfold k0_pay5; rw [relaid, fs_eq]

end Cert.FfnRefIdeal.Whole
-- ==== Proof.RefReads.lean ====
/- What the reference reads, as elements of the program's arguments, and its seven result arrays element by
   element. -/
module

public import proofs.«01_k».proof.Proof.FfnRef.Run
public import proofs.«01_k».proof.Proof.RefVals
public import Idealize.ShloMosaic.Lib.Pipeline.ValueKit

@[expose] public section

set_option maxRecDepth 16384

noncomputable section

namespace Cert.FfnRefIdeal.Whole

open Cert.FfnRefIdeal Cert.FfnRefIdeal.Gen Idealize.ShloMosaic Idealize.ShloMosaic.TcCoe Idealize.SL.Sem
open Idealize.ShloMosaic.Pipeline (Dat)

variable (m : (ℓ : Loc nD τ sig) → Buf (Elt Ideal) ℓ)

/-- The layer's parameters, from the program's arguments. -/
def args (c : Dev nD) : Rows.Params where
  g0 k := m ((c : Thread nD τ).loc main_arg3) (ix1 k)
  b0 k := m ((c : Thread nD τ).loc main_arg4) (ix1 k)
  wo k l := m ((c : Thread nD τ).loc main_arg5) (ix3 ⟨k.val / 64, by omega⟩ ⟨k.val % 64, by omega⟩ l)
  so k := m ((c : Thread nD τ).loc main_arg6) (ix1 k)
  bo k := m ((c : Thread nD τ).loc main_arg7) (ix1 k)
  g1 k := m ((c : Thread nD τ).loc main_arg14) (ix1 k)
  b1 k := m ((c : Thread nD τ).loc main_arg15) (ix1 k)
  w1 k n := m ((c : Thread nD τ).loc main_arg8) (ix2 k n)
  s1 n := m ((c : Thread nD τ).loc main_arg9) (ix1 n)
  bf1 n := m ((c : Thread nD τ).loc main_arg10) (ix1 n)
  w2 k l := m ((c : Thread nD τ).loc main_arg11) (ix2 k l)
  s2 k := m ((c : Thread nD τ).loc main_arg12) (ix1 k)
  bf2 k := m ((c : Thread nD τ).loc main_arg13) (ix1 k)
  g2 k := m ((c : Thread nD τ).loc main_arg16) (ix1 k)
  b2 k := m ((c : Thread nD τ).loc main_arg17) (ix1 k)

/-- Token `n`, from the program's arguments: 640 tokens make one of the 16 sequences. -/
def token (c : Dev nD) (n : Fin 10240) : Rows.Token where
  cc k := m ((c : Thread nD τ).loc main_arg0) (ix3 ⟨n.val / 640, by omega⟩ k ⟨n.val % 640, by omega⟩)
  cs := m ((c : Thread nD τ).loc main_arg1) (ix3 ⟨n.val / 640, by omega⟩ 0 ⟨n.val % 640, by omega⟩)
  x k := m ((c : Thread nD τ).loc main_arg2) (ix3 ⟨n.val / 640, by omega⟩ ⟨n.val % 640, by omega⟩ k)

/-- The blocks the one grid point reads. -/
def blks (c : Dev nD) : Blocks where
  cc := iblk m c 0 t0_0
  cs := iblk m c 1 t0_0
  x := iblk m c 2 t0_0
  g0 := iblk m c 3 t0_0
  b0 := iblk m c 4 t0_0
  wo := iblk m c 5 t0_0
  so := iblk m c 6 t0_0
  bo := iblk m c 7 t0_0
  w1 := iblk m c 8 t0_0
  s1 := iblk m c 9 t0_0
  bf1 := iblk m c 10 t0_0
  w2 := iblk m c 11 t0_0
  s2 := iblk m c 12 t0_0
  bf2 := iblk m c 13 t0_0
  g1 := iblk m c 14 t0_0
  b1 := iblk m c 15 t0_0
  g2 := iblk m c 16 t0_0
  b2 := iblk m c 17 t0_0

/-- Every window's block is its whole array. -/
theorem idxs : win0_0.index t0_0 = ![0, 0]
    ∧ win0_1.index t0_0 = ![0, 0]
    ∧ win0_2.index t0_0 = ![0, 0]
    ∧ win0_3.index t0_0 = ![0, 0]
    ∧ win0_4.index t0_0 = ![0, 0]
    ∧ win0_5.index t0_0 = ![0, 0]
    ∧ win0_6.index t0_0 = ![0, 0]
    ∧ win0_7.index t0_0 = ![0, 0]
    ∧ win0_8.index t0_0 = ![0, 0]
    ∧ win0_9.index t0_0 = ![0, 0]
    ∧ win0_10.index t0_0 = ![0, 0]
    ∧ win0_11.index t0_0 = ![0, 0]
    ∧ win0_12.index t0_0 = ![0, 0]
    ∧ win0_13.index t0_0 = ![0, 0]
    ∧ win0_14.index t0_0 = ![0, 0]
    ∧ win0_15.index t0_0 = ![0, 0]
    ∧ win0_16.index t0_0 = ![0, 0]
    ∧ win0_17.index t0_0 = ![0, 0]
    ∧ win0_18.index t0_0 = ![0, 0]
    ∧ win0_19.index t0_0 = ![0, 0, 0]
    ∧ win0_20.index t0_0 = ![0, 0]
    ∧ win0_21.index t0_0 = ![0, 0]
    ∧ win0_22.index t0_0 = ![0, 0, 0]
    ∧ win0_23.index t0_0 = ![0, 0]
    ∧ win0_24.index t0_0 = ![0, 0, 0] := by
  decide +kernel

theorem g0_eq (c : Dev nD) (k : Fin 1536) : (blks m c).g0 (ix2 0 k) = (args m c).g0 k := by
  unfold blks args
  dsimp only
  blk_simp [iblk]
  entry_read
  pointwise
  blk_ext [idxs]

theorem b0_eq (c : Dev nD) (k : Fin 1536) : (blks m c).b0 (ix2 0 k) = (args m c).b0 k := by
  unfold blks args
  dsimp only
  blk_simp [iblk]
  entry_read
  pointwise
  blk_ext [idxs]

theorem so_eq (c : Dev nD) (k : Fin 1536) : (blks m c).so (ix2 0 k) = (args m c).so k := by
  unfold blks args
  dsimp only
  blk_simp [iblk]
  entry_read
  pointwise
  blk_ext [idxs]

theorem bo_eq (c : Dev nD) (k : Fin 1536) : (blks m c).bo (ix2 0 k) = (args m c).bo k := by
  unfold blks args
  dsimp only
  blk_simp [iblk]
  entry_read
  pointwise
  blk_ext [idxs]

theorem s1_eq (c : Dev nD) (k : Fin 6144) : (blks m c).s1 (ix2 0 k) = (args m c).s1 k := by
  unfold blks args
  dsimp only
  blk_simp [iblk]
  entry_read
  pointwise
  blk_ext [idxs]

theorem bf1_eq (c : Dev nD) (k : Fin 6144) : (blks m c).bf1 (ix2 0 k) = (args m c).bf1 k := by
  unfold blks args
  dsimp only
  blk_simp [iblk]
  entry_read
  pointwise
  blk_ext [idxs]

theorem s2_eq (c : Dev nD) (k : Fin 1536) : (blks m c).s2 (ix2 0 k) = (args m c).s2 k := by
  unfold blks args
  dsimp only
  blk_simp [iblk]
  entry_read
  pointwise
  blk_ext [idxs]

theorem bf2_eq (c : Dev nD) (k : Fin 1536) : (blks m c).bf2 (ix2 0 k) = (args m c).bf2 k := by
  unfold blks args
  dsimp only
  blk_simp [iblk]
  entry_read
  pointwise
  blk_ext [idxs]

theorem g1_eq (c : Dev nD) (k : Fin 1536) : (blks m c).g1 (ix2 0 k) = (args m c).g1 k := by
  unfold blks args
  dsimp only
  blk_simp [iblk]
  entry_read
  pointwise
  blk_ext [idxs]

theorem b1_eq (c : Dev nD) (k : Fin 1536) : (blks m c).b1 (ix2 0 k) = (args m c).b1 k := by
  unfold blks args
  dsimp only
  blk_simp [iblk]
  entry_read
  pointwise
  blk_ext [idxs]

theorem g2_eq (c : Dev nD) (k : Fin 1536) : (blks m c).g2 (ix2 0 k) = (args m c).g2 k := by
  unfold blks args
  dsimp only
  blk_simp [iblk]
  entry_read
  pointwise
  blk_ext [idxs]

theorem b2_eq (c : Dev nD) (k : Fin 1536) : (blks m c).b2 (ix2 0 k) = (args m c).b2 k := by
  unfold blks args
  dsimp only
  blk_simp [iblk]
  entry_read
  pointwise
  blk_ext [idxs]

theorem wo_eq (c : Dev nD) (k l : Fin 1536) : (blks m c).wo (ix2 k l) = (args m c).wo k l := by
  unfold blks args
  dsimp only
  blk_simp [iblk]
  entry_read
  pointwise
  blk_ext [idxs]

theorem w1_eq (c : Dev nD) (k : Fin 1536) (l : Fin 6144) : (blks m c).w1 (ix2 k l) = (args m c).w1 k l := by
  unfold blks args
  dsimp only
  blk_ext [iblk, V_main_arg8, idxs]

theorem w2_eq (c : Dev nD) (k : Fin 6144) (l : Fin 1536) : (blks m c).w2 (ix2 k l) = (args m c).w2 k l := by
  unfold blks args
  dsimp only
  blk_ext [iblk, V_main_arg11, idxs]

theorem cc_eq (c : Dev nD) (r : Fin 10240) (k : Fin 1536) : (blks m c).cc (ix2 r k) = (token m c r).cc k := by
  unfold blks token
  dsimp only
  blk_simp [iblk]
  entry_read
  pointwise
  blk_ext [idxs]

theorem cs_eq (c : Dev nD) (r : Fin 10240) : (blks m c).cs (ix2 r 0) = (token m c r).cs := by
  unfold blks token
  dsimp only
  blk_simp [iblk]
  entry_read
  pointwise
  blk_ext [idxs]

theorem x_eq (c : Dev nD) (r : Fin 10240) (k : Fin 1536) : (blks m c).x (ix2 r k) = (token m c r).x k := by
  unfold blks token
  dsimp only
  blk_simp [iblk]
  entry_read
  pointwise
  blk_ext [idxs]

end Cert.FfnRefIdeal.Whole
-- ==== Proof.RefOut.lean ====
/- The reference's seven result arrays, element by element. -/
module

public import proofs.«01_k».proof.Proof.RefReads
public import proofs.«01_k».proof.Proof.Tokens

@[expose] public section

set_option maxRecDepth 16384

noncomputable section

namespace Cert.FfnRefIdeal.Whole

open Cert.FfnRefIdeal Cert.FfnRefIdeal.Gen Idealize.ShloMosaic Idealize.ShloMosaic.TcCoe Idealize.SL.Sem
open Idealize.ShloMosaic.Pipeline (Dat)

variable (m : (ℓ : Loc nD τ sig) → Buf (Elt Ideal) ℓ)

set_option maxHeartbeats 2000000 in
/-- The blocks hold the arguments' parameters. -/
theorem prm_eq (c : Dev nD) : prm (blks m c) = args m c :=
  Cert.FfnIdeal.Block.params_ext (funext fun k => g0_eq m c k) (funext fun k => b0_eq m c k)
    (funext fun k => funext fun l => wo_eq m c k l)
    (funext fun k => so_eq m c k) (funext fun k => bo_eq m c k) (funext fun k => g1_eq m c k) (funext fun k => b1_eq m c k)
    (funext fun k => funext fun n => w1_eq m c k n) (funext fun n => s1_eq m c n) (funext fun n => bf1_eq m c n)
    (funext fun k => funext fun l => w2_eq m c k l)
    (funext fun k => s2_eq m c k) (funext fun k => bf2_eq m c k) (funext fun k => g2_eq m c k) (funext fun k => b2_eq m c k)

/-- Row `r` of the blocks is token `r`. -/
theorem tok_eq (c : Dev nD) (r : Fin 10240) : tok (blks m c) r = token m c r :=
  Cert.FfnIdeal.Block.token_ext (funext fun k => cc_eq m c r k) (cs_eq m c r) (funext fun k => x_eq m c r k)

/-- Token `256 a + b`. -/
def tokenOf (c : Dev nD) (a : Fin 40) (b : Fin 256) : Rows.Token := token m c ⟨256 * a.val + b.val, by omega⟩

/-! ## Whole-array loads -/

theorem ld0 {e : EltTy} (X : Vec Ideal S10240x1536 e) : View.ld X r0_0 = X := View.ld_unit_lit _ X (by decide)
theorem ld1 {e : EltTy} (X : Vec Ideal S1x1536 e) : View.ld X r0_1 = X := View.ld_unit_lit _ X (by decide)
theorem ld2 {e : EltTy} (X : Vec Ideal S10240x1 e) : View.ld X r0_2 = X := View.ld_unit_lit _ X (by decide)
theorem ld3 {e : EltTy} (X : Vec Ideal S1536x1536 e) : View.ld X r0_3 = X := View.ld_unit_lit _ X (by decide)
theorem ld4 {e : EltTy} (X : Vec Ideal S1536x6144 e) : View.ld X r0_4 = X := View.ld_unit_lit _ X (by decide)
theorem ld5 {e : EltTy} (X : Vec Ideal S1x6144 e) : View.ld X r0_5 = X := View.ld_unit_lit _ X (by decide)
theorem ld6 {e : EltTy} (X : Vec Ideal S6144x1536 e) : View.ld X r0_6 = X := View.ld_unit_lit _ X (by decide)

/-! ## The values the body's stores name -/

section
variable (B : Blocks)

theorem body27 : k0_pay27 B.cc B.cs B.x B.g0 B.b0 B.wo B.so B.bo B.w1 B.s1 B.bf1 B.w2 B.s2 B.bf2 B.g1 B.b1 B.g2 B.b2
    = h1 B := by
  unfold k0_pay27 k0_pay26 k0_pay25 k0_pay24 k0_pay23 k0_pay22 k0_pay21 h1
  simp only [ld0, ld1, ld2, ld3, ld4, ld5, ld6]

theorem body28 : k0_pay28 B.cc B.cs B.x B.g0 B.b0 B.wo B.so B.bo B.w1 B.s1 B.bf1 B.w2 B.s2 B.bf2 B.g1 B.b1 B.g2 B.b2
    = hs B := by
  unfold k0_pay28 k0_pay26 k0_pay25 k0_pay24 k0_pay23 k0_pay22 k0_pay21 hs
  simp only [ld0, ld1, ld2, ld3, ld4, ld5, ld6]

theorem body29 : k0_pay29 B.cc B.cs B.x B.g0 B.b0 B.wo B.so B.bo B.w1 B.s1 B.bf1 B.w2 B.s2 B.bf2 B.g1 B.b1 B.g2 B.b2
    = hr B := by
  unfold k0_pay29 k0_pay26 k0_pay25 k0_pay24 k0_pay23 k0_pay22 k0_pay21 hr
  simp only [ld0, ld1, ld2, ld3, ld4, ld5, ld6]

theorem body30 : k0_pay30 B.cc B.cs B.x B.g0 B.b0 B.wo B.so B.bo B.w1 B.s1 B.bf1 B.w2 B.s2 B.bf2 B.g1 B.b1 B.g2 B.b2
    = fs B := by
  unfold k0_pay30 fs
  simp only [body28, body29, ld0, ld1, ld2, ld3, ld4, ld5, ld6]

theorem body31 : k0_pay31 B.cc B.cs B.x B.g0 B.b0 B.wo B.so B.bo B.w1 B.s1 B.bf1 B.w2 B.s2 B.bf2 B.g1 B.b1 B.g2 B.b2
    = fc B := by
  unfold k0_pay31 fc
  simp only [body28, body29, ld0, ld1, ld2, ld3, ld4, ld5, ld6]

theorem body32 : k0_pay32 B.cc B.cs B.x B.g0 B.b0 B.wo B.so B.bo B.w1 B.s1 B.bf1 B.w2 B.s2 B.bf2 B.g1 B.b1 B.g2 B.b2
    = h2 B := by
  unfold k0_pay32 h2
  simp only [body27, body30, body31, ld0, ld1, ld2, ld3, ld4, ld5, ld6]

theorem body33 : k0_pay33 B.cc B.cs B.x B.g0 B.b0 B.wo B.so B.bo B.w1 B.s1 B.bf1 B.w2 B.s2 B.bf2 B.g1 B.b1 B.g2 B.b2
    = ha B := by
  unfold k0_pay33 ha
  simp only [body27, body30, body31, ld0, ld1, ld2, ld3, ld4, ld5, ld6]

end

/-- The body's store to window 18: the codes of the result. -/
theorem store18 (c : Dev nD) (j : S10240x1536.Idx) :
    out0_18 (blks m c).cc (blks m c).cs (blks m c).x (blks m c).g0 (blks m c).b0 (blks m c).wo (blks m c).so (blks m c).bo (blks m c).w1 (blks m c).s1 (blks m c).bf1 (blks m c).w2 (blks m c).s2 (blks m c).bf2 (blks m c).g1 (blks m c).b1 (blks m c).g2 (blks m c).b2 j
      = (fun i : S10240x1536.Idx => Rows.code (Rows.h2 (args m c) (token m c (i 0)) (i 1)) (Rows.h2s (args m c) (token m c (i 0)))) j := by
  have hj : j = (ix2 (j 0) (j 1) : S10240x1536.Idx) := funext fun a => match a with | 0 => rfl | 1 => rfl
  unfold out0_18
  rw [View.canon_cons_unit_lit (h := by decide), body32 (blks m c), body33 (blks m c)]
  refine (congrArg _ hj).trans ((out18 (blks m c) (j 0) (j 1)).trans ?_)
  rw [prm_eq]
  dsimp only
  exact congrArg (fun T => Rows.code (Rows.h2 (args m c) T (j 1)) (Rows.h2s (args m c) T)) (tok_eq m c (j 0))

/-- The body's store to window 20: the result before quantisation. -/
theorem store20 (c : Dev nD) (j : S10240x1536.Idx) :
    out0_20 (blks m c).cc (blks m c).cs (blks m c).x (blks m c).g0 (blks m c).b0 (blks m c).wo (blks m c).so (blks m c).bo (blks m c).w1 (blks m c).s1 (blks m c).bf1 (blks m c).w2 (blks m c).s2 (blks m c).bf2 (blks m c).g1 (blks m c).b1 (blks m c).g2 (blks m c).b2 j
      = (fun i : S10240x1536.Idx => Rows.h2 (args m c) (token m c (i 0)) (i 1)) j := by
  have hj : j = (ix2 (j 0) (j 1) : S10240x1536.Idx) := funext fun a => match a with | 0 => rfl | 1 => rfl
  unfold out0_20
  rw [View.canon_cons_unit_lit (h := by decide), body32 (blks m c)]
  refine (congrArg _ hj).trans ((h2_eq (blks m c) (j 0) (j 1)).trans ?_)
  rw [prm_eq]
  dsimp only
  exact congrArg (fun T => Rows.h2 (args m c) T (j 1)) (tok_eq m c (j 0))

/-- The body's store to window 21: the attention half's codes. -/
theorem store21 (c : Dev nD) (j : S10240x1536.Idx) :
    out0_21 (blks m c).cc (blks m c).cs (blks m c).x (blks m c).g0 (blks m c).b0 (blks m c).wo (blks m c).so (blks m c).bo (blks m c).w1 (blks m c).s1 (blks m c).bf1 (blks m c).w2 (blks m c).s2 (blks m c).bf2 (blks m c).g1 (blks m c).b1 (blks m c).g2 (blks m c).b2 j
      = (fun i : S10240x1536.Idx => Rows.code (Rows.h1 (args m c) (token m c (i 0)) (i 1)) (Rows.h1s (args m c) (token m c (i 0)))) j := by
  have hj : j = (ix2 (j 0) (j 1) : S10240x1536.Idx) := funext fun a => match a with | 0 => rfl | 1 => rfl
  unfold out0_21
  rw [View.canon_cons_unit_lit (h := by decide), body29 (blks m c)]
  refine (congrArg _ hj).trans ((hc_eq (blks m c) (j 0) (j 1)).trans ?_)
  rw [prm_eq]
  dsimp only
  exact congrArg (fun T => Rows.code (Rows.h1 (args m c) T (j 1)) (Rows.h1s (args m c) T)) (tok_eq m c (j 0))

/-- The body's store to window 23: the second quantisation's codes. -/
theorem store23 (c : Dev nD) (j : S10240x6144.Idx) :
    out0_23 (blks m c).cc (blks m c).cs (blks m c).x (blks m c).g0 (blks m c).b0 (blks m c).wo (blks m c).so (blks m c).bo (blks m c).w1 (blks m c).s1 (blks m c).bf1 (blks m c).w2 (blks m c).s2 (blks m c).bf2 (blks m c).g1 (blks m c).b1 (blks m c).g2 (blks m c).b2 j
      = (fun i : S10240x6144.Idx => Rows.code (Rows.f (args m c) (token m c (i 0)) (i 1)) (Rows.fs (args m c) (token m c (i 0)))) j := by
  have hj : j = (ix2 (j 0) (j 1) : S10240x6144.Idx) := funext fun a => match a with | 0 => rfl | 1 => rfl
  unfold out0_23
  rw [View.canon_cons_unit_lit (h := by decide), body31 (blks m c)]
  refine (congrArg _ hj).trans ((fc_eq (blks m c) (j 0) (j 1)).trans ?_)
  rw [prm_eq]
  dsimp only
  exact congrArg (fun T => Rows.code (Rows.f (args m c) T (j 1)) (Rows.fs (args m c) T)) (tok_eq m c (j 0))

/-- The body's store to window 19: the result's steps. -/
theorem store19 (c : Dev nD) (j : S40x1x256.Idx) :
    out0_19 (blks m c).cc (blks m c).cs (blks m c).x (blks m c).g0 (blks m c).b0 (blks m c).wo (blks m c).so (blks m c).bo (blks m c).w1 (blks m c).s1 (blks m c).bf1 (blks m c).w2 (blks m c).s2 (blks m c).bf2 (blks m c).g1 (blks m c).b1 (blks m c).g2 (blks m c).b2 j
      = (fun i : S40x1x256.Idx => Rows.h2s (args m c) (tokenOf m c (i 0) (i 2))) j := by
  have hj : j = (ix3 (j 0) 0 (j 2) : S40x1x256.Idx) := funext fun a => match a with | 0 => rfl | 1 => Fin.ext (Nat.lt_one_iff.1 (j 1).isLt) | 2 => rfl
  unfold out0_19
  rw [View.canon_cons_unit_lit (h := by decide), body33 (blks m c)]
  refine (congrArg _ hj).trans ((out19 (blks m c) (j 0) (j 2)).trans ?_)
  rw [prm_eq]
  dsimp only
  exact congrArg (fun T => Rows.h2s (args m c) T) (tok_eq m c _)

/-- The body's store to window 22: the attention half's steps. -/
theorem store22 (c : Dev nD) (j : S40x1x256.Idx) :
    out0_22 (blks m c).cc (blks m c).cs (blks m c).x (blks m c).g0 (blks m c).b0 (blks m c).wo (blks m c).so (blks m c).bo (blks m c).w1 (blks m c).s1 (blks m c).bf1 (blks m c).w2 (blks m c).s2 (blks m c).bf2 (blks m c).g1 (blks m c).b1 (blks m c).g2 (blks m c).b2 j
      = (fun i : S40x1x256.Idx => Rows.h1s (args m c) (tokenOf m c (i 0) (i 2))) j := by
  have hj : j = (ix3 (j 0) 0 (j 2) : S40x1x256.Idx) := funext fun a => match a with | 0 => rfl | 1 => Fin.ext (Nat.lt_one_iff.1 (j 1).isLt) | 2 => rfl
  unfold out0_22
  rw [View.canon_cons_unit_lit (h := by decide), body28 (blks m c)]
  refine (congrArg _ hj).trans ((out22 (blks m c) (j 0) (j 2)).trans ?_)
  rw [prm_eq]
  dsimp only
  exact congrArg (fun T => Rows.h1s (args m c) T) (tok_eq m c _)

/-- The body's store to window 24: the second quantisation's steps. -/
theorem store24 (c : Dev nD) (j : S40x1x256.Idx) :
    out0_24 (blks m c).cc (blks m c).cs (blks m c).x (blks m c).g0 (blks m c).b0 (blks m c).wo (blks m c).so (blks m c).bo (blks m c).w1 (blks m c).s1 (blks m c).bf1 (blks m c).w2 (blks m c).s2 (blks m c).bf2 (blks m c).g1 (blks m c).b1 (blks m c).g2 (blks m c).b2 j
      = (fun i : S40x1x256.Idx => Rows.fs (args m c) (tokenOf m c (i 0) (i 2))) j := by
  have hj : j = (ix3 (j 0) 0 (j 2) : S40x1x256.Idx) := funext fun a => match a with | 0 => rfl | 1 => Fin.ext (Nat.lt_one_iff.1 (j 1).isLt) | 2 => rfl
  unfold out0_24
  rw [View.canon_cons_unit_lit (h := by decide), body30 (blks m c)]
  refine (congrArg _ hj).trans ((out24 (blks m c) (j 0) (j 2)).trans ?_)
  rw [prm_eq]
  dsimp only
  exact congrArg (fun T => Rows.fs (args m c) T) (tok_eq m c _)

/-! ## The arrays after the run -/

theorem last18 (c : Dev nD) (X G : Vec Ideal S10240x1536 .i8) (hX : (dats m 0 c).after 18 t0_0 = X)
    (h : ∀ j, X j = G j) : (dats m 0 c).arrAt 18 cfg0.N = G := by
  refine (dats m 0 c).arrAt_eq_of_after_last 18 t0_0 (by decide +kernel) G fun j => ?_
  rw [hX]
  exact h j

/-- The codes of the result. -/
theorem arr18 (c : Dev nD) : (dats m 0 c).arrAt 18 cfg0.N
    = (fun i : S10240x1536.Idx => Rows.code (Rows.h2 (args m c) (token m c (i 0)) (i 1)) (Rows.h2s (args m c) (token m c (i 0)))) :=
  last18 m c (out0_18 (blks m c).cc (blks m c).cs (blks m c).x (blks m c).g0 (blks m c).b0 (blks m c).wo (blks m c).so (blks m c).bo (blks m c).w1 (blks m c).s1 (blks m c).bf1 (blks m c).w2 (blks m c).s2 (blks m c).bf2 (blks m c).g1 (blks m c).b1 (blks m c).g2 (blks m c).b2)
    _ (by rw [after0_18]; rfl) (store18 m c)

theorem last19 (c : Dev nD) (X G : Vec Ideal S40x1x256 .f32) (hX : (dats m 0 c).after 19 t0_0 = X)
    (h : ∀ j, X j = G j) : (dats m 0 c).arrAt 19 cfg0.N = G := by
  refine (dats m 0 c).arrAt_eq_of_after_last 19 t0_0 (by decide +kernel) G fun j => ?_
  rw [hX]
  exact h j

/-- The result's steps. -/
theorem arr19 (c : Dev nD) : (dats m 0 c).arrAt 19 cfg0.N
    = (fun i : S40x1x256.Idx => Rows.h2s (args m c) (tokenOf m c (i 0) (i 2))) :=
  last19 m c (out0_19 (blks m c).cc (blks m c).cs (blks m c).x (blks m c).g0 (blks m c).b0 (blks m c).wo (blks m c).so (blks m c).bo (blks m c).w1 (blks m c).s1 (blks m c).bf1 (blks m c).w2 (blks m c).s2 (blks m c).bf2 (blks m c).g1 (blks m c).b1 (blks m c).g2 (blks m c).b2)
    _ (by rw [after0_19]; rfl) (store19 m c)

theorem last20 (c : Dev nD) (X G : Vec Ideal S10240x1536 .f32) (hX : (dats m 0 c).after 20 t0_0 = X)
    (h : ∀ j, X j = G j) : (dats m 0 c).arrAt 20 cfg0.N = G := by
  refine (dats m 0 c).arrAt_eq_of_after_last 20 t0_0 (by decide +kernel) G fun j => ?_
  rw [hX]
  exact h j

/-- The result before quantisation. -/
theorem arr20 (c : Dev nD) : (dats m 0 c).arrAt 20 cfg0.N
    = (fun i : S10240x1536.Idx => Rows.h2 (args m c) (token m c (i 0)) (i 1)) :=
  last20 m c (out0_20 (blks m c).cc (blks m c).cs (blks m c).x (blks m c).g0 (blks m c).b0 (blks m c).wo (blks m c).so (blks m c).bo (blks m c).w1 (blks m c).s1 (blks m c).bf1 (blks m c).w2 (blks m c).s2 (blks m c).bf2 (blks m c).g1 (blks m c).b1 (blks m c).g2 (blks m c).b2)
    _ (by rw [after0_20]; rfl) (store20 m c)

theorem last21 (c : Dev nD) (X G : Vec Ideal S10240x1536 .i8) (hX : (dats m 0 c).after 21 t0_0 = X)
    (h : ∀ j, X j = G j) : (dats m 0 c).arrAt 21 cfg0.N = G := by
  refine (dats m 0 c).arrAt_eq_of_after_last 21 t0_0 (by decide +kernel) G fun j => ?_
  rw [hX]
  exact h j

/-- The attention half's codes. -/
theorem arr21 (c : Dev nD) : (dats m 0 c).arrAt 21 cfg0.N
    = (fun i : S10240x1536.Idx => Rows.code (Rows.h1 (args m c) (token m c (i 0)) (i 1)) (Rows.h1s (args m c) (token m c (i 0)))) :=
  last21 m c (out0_21 (blks m c).cc (blks m c).cs (blks m c).x (blks m c).g0 (blks m c).b0 (blks m c).wo (blks m c).so (blks m c).bo (blks m c).w1 (blks m c).s1 (blks m c).bf1 (blks m c).w2 (blks m c).s2 (blks m c).bf2 (blks m c).g1 (blks m c).b1 (blks m c).g2 (blks m c).b2)
    _ (by rw [after0_21]; rfl) (store21 m c)

theorem last22 (c : Dev nD) (X G : Vec Ideal S40x1x256 .f32) (hX : (dats m 0 c).after 22 t0_0 = X)
    (h : ∀ j, X j = G j) : (dats m 0 c).arrAt 22 cfg0.N = G := by
  refine (dats m 0 c).arrAt_eq_of_after_last 22 t0_0 (by decide +kernel) G fun j => ?_
  rw [hX]
  exact h j

/-- The attention half's steps. -/
theorem arr22 (c : Dev nD) : (dats m 0 c).arrAt 22 cfg0.N
    = (fun i : S40x1x256.Idx => Rows.h1s (args m c) (tokenOf m c (i 0) (i 2))) :=
  last22 m c (out0_22 (blks m c).cc (blks m c).cs (blks m c).x (blks m c).g0 (blks m c).b0 (blks m c).wo (blks m c).so (blks m c).bo (blks m c).w1 (blks m c).s1 (blks m c).bf1 (blks m c).w2 (blks m c).s2 (blks m c).bf2 (blks m c).g1 (blks m c).b1 (blks m c).g2 (blks m c).b2)
    _ (by rw [after0_22]; rfl) (store22 m c)

theorem last23 (c : Dev nD) (X G : Vec Ideal S10240x6144 .i8) (hX : (dats m 0 c).after 23 t0_0 = X)
    (h : ∀ j, X j = G j) : (dats m 0 c).arrAt 23 cfg0.N = G := by
  refine (dats m 0 c).arrAt_eq_of_after_last 23 t0_0 (by decide +kernel) G fun j => ?_
  rw [hX]
  exact h j

/-- The second quantisation's codes. -/
theorem arr23 (c : Dev nD) : (dats m 0 c).arrAt 23 cfg0.N
    = (fun i : S10240x6144.Idx => Rows.code (Rows.f (args m c) (token m c (i 0)) (i 1)) (Rows.fs (args m c) (token m c (i 0)))) :=
  last23 m c (out0_23 (blks m c).cc (blks m c).cs (blks m c).x (blks m c).g0 (blks m c).b0 (blks m c).wo (blks m c).so (blks m c).bo (blks m c).w1 (blks m c).s1 (blks m c).bf1 (blks m c).w2 (blks m c).s2 (blks m c).bf2 (blks m c).g1 (blks m c).b1 (blks m c).g2 (blks m c).b2)
    _ (by rw [after0_23]; rfl) (store23 m c)

theorem last24 (c : Dev nD) (X G : Vec Ideal S40x1x256 .f32) (hX : (dats m 0 c).after 24 t0_0 = X)
    (h : ∀ j, X j = G j) : (dats m 0 c).arrAt 24 cfg0.N = G := by
  refine (dats m 0 c).arrAt_eq_of_after_last 24 t0_0 (by decide +kernel) G fun j => ?_
  rw [hX]
  exact h j

/-- The second quantisation's steps. -/
theorem arr24 (c : Dev nD) : (dats m 0 c).arrAt 24 cfg0.N
    = (fun i : S40x1x256.Idx => Rows.fs (args m c) (tokenOf m c (i 0) (i 2))) :=
  last24 m c (out0_24 (blks m c).cc (blks m c).cs (blks m c).x (blks m c).g0 (blks m c).b0 (blks m c).wo (blks m c).so (blks m c).bo (blks m c).w1 (blks m c).s1 (blks m c).bf1 (blks m c).w2 (blks m c).s2 (blks m c).bf2 (blks m c).g1 (blks m c).b1 (blks m c).g2 (blks m c).b2)
    _ (by rw [after0_24]; rfl) (store24 m c)

end Cert.FfnRefIdeal.Whole
-- ==== Proof.Results.lean ====
/- The seven results as functions of the parameters and the tokens, and both programs' result arrays as these functions. -/
module

public import proofs.«01_k».proof.Proof.KernelOut
public import proofs.«01_k».proof.Proof.RefOut

@[expose] public section

set_option maxRecDepth 16384
set_option maxHeartbeats 4000000

noncomputable section

namespace Cert.Results

open Idealize.ShloMosaic Idealize.SL.Sem

/-! ## The seven results, as functions of the parameters and the tokens -/

theorem at_lt (i : Cert.FfnIdeal.S40x1x256.Idx) : 256 * (i 0).val + (i 2).val < 10240 := by
  have h0 : (i 0).val < 40 := (i 0).isLt
  have h2 : (i 2).val < 256 := (i 2).isLt
  omega

variable (P : Rows.Params) (T : Fin 10240 → Rows.Token)

/-- The codes of the layer's result. -/
def oc (i : Cert.FfnIdeal.S10240x1536.Idx) : BitVec 8 := Rows.code (Rows.h2 P (T (i 0)) (i 1)) (Rows.h2s P (T (i 0)))
/-- Their steps. -/
def os (i : Cert.FfnIdeal.S40x1x256.Idx) : EReal := Rows.h2s P (T ⟨256 * (i 0).val + (i 2).val, at_lt i⟩)
/-- The layer's result before quantisation. -/
def h2 (i : Cert.FfnIdeal.S10240x1536.Idx) : EReal := Rows.h2 P (T (i 0)) (i 1)
/-- The codes of the attention half's result. -/
def hc (i : Cert.FfnIdeal.S10240x1536.Idx) : BitVec 8 := Rows.code (Rows.h1 P (T (i 0)) (i 1)) (Rows.h1s P (T (i 0)))
/-- Their steps. -/
def hs (i : Cert.FfnIdeal.S40x1x256.Idx) : EReal := Rows.h1s P (T ⟨256 * (i 0).val + (i 2).val, at_lt i⟩)
/-- The codes of the inner layer's result. -/
def fc (i : Cert.FfnIdeal.S10240x6144.Idx) : BitVec 8 := Rows.code (Rows.f P (T (i 0)) (i 1)) (Rows.fs P (T (i 0)))
/-- Their steps. -/
def fs (i : Cert.FfnIdeal.S40x1x256.Idx) : EReal := Rows.fs P (T ⟨256 * (i 0).val + (i 2).val, at_lt i⟩)

/-! ## Both programs' arrays -/

theorem kernel_oc (m : (ℓ : Loc Cert.FfnIdeal.nD Cert.FfnIdeal.τ Cert.FfnIdeal.sig) → Buf (Elt Ideal) ℓ) (c : Dev Cert.FfnIdeal.nD) :
    (Cert.FfnIdeal.Gen.dats m 0 c).arrAt 19 Cert.FfnIdeal.cfg0.N
      = oc (Cert.FfnIdeal.Block.args m c) (Cert.FfnIdeal.Block.token m c) :=
  Cert.FfnIdeal.Block.arr19 m c
theorem reference_oc (m : (ℓ : Loc Cert.FfnRefIdeal.nD Cert.FfnRefIdeal.τ Cert.FfnRefIdeal.sig) → Buf (Elt Ideal) ℓ)
    (c : Dev Cert.FfnRefIdeal.nD) :
    (Cert.FfnRefIdeal.Gen.dats m 0 c).arrAt 18 Cert.FfnRefIdeal.cfg0.N
      = oc (Cert.FfnRefIdeal.Whole.args m c) (Cert.FfnRefIdeal.Whole.token m c) :=
  Cert.FfnRefIdeal.Whole.arr18 m c
theorem kernel_os (m : (ℓ : Loc Cert.FfnIdeal.nD Cert.FfnIdeal.τ Cert.FfnIdeal.sig) → Buf (Elt Ideal) ℓ) (c : Dev Cert.FfnIdeal.nD) :
    (Cert.FfnIdeal.Gen.dats m 0 c).arrAt 20 Cert.FfnIdeal.cfg0.N
      = os (Cert.FfnIdeal.Block.args m c) (Cert.FfnIdeal.Block.token m c) :=
  Cert.FfnIdeal.Block.arr20 m c
theorem reference_os (m : (ℓ : Loc Cert.FfnRefIdeal.nD Cert.FfnRefIdeal.τ Cert.FfnRefIdeal.sig) → Buf (Elt Ideal) ℓ)
    (c : Dev Cert.FfnRefIdeal.nD) :
    (Cert.FfnRefIdeal.Gen.dats m 0 c).arrAt 19 Cert.FfnRefIdeal.cfg0.N
      = os (Cert.FfnRefIdeal.Whole.args m c) (Cert.FfnRefIdeal.Whole.token m c) :=
  Cert.FfnRefIdeal.Whole.arr19 m c
theorem kernel_h2 (m : (ℓ : Loc Cert.FfnIdeal.nD Cert.FfnIdeal.τ Cert.FfnIdeal.sig) → Buf (Elt Ideal) ℓ) (c : Dev Cert.FfnIdeal.nD) :
    (Cert.FfnIdeal.Gen.dats m 0 c).arrAt 21 Cert.FfnIdeal.cfg0.N
      = h2 (Cert.FfnIdeal.Block.args m c) (Cert.FfnIdeal.Block.token m c) :=
  Cert.FfnIdeal.Block.arr21 m c
theorem reference_h2 (m : (ℓ : Loc Cert.FfnRefIdeal.nD Cert.FfnRefIdeal.τ Cert.FfnRefIdeal.sig) → Buf (Elt Ideal) ℓ)
    (c : Dev Cert.FfnRefIdeal.nD) :
    (Cert.FfnRefIdeal.Gen.dats m 0 c).arrAt 20 Cert.FfnRefIdeal.cfg0.N
      = h2 (Cert.FfnRefIdeal.Whole.args m c) (Cert.FfnRefIdeal.Whole.token m c) :=
  Cert.FfnRefIdeal.Whole.arr20 m c
theorem kernel_hc (m : (ℓ : Loc Cert.FfnIdeal.nD Cert.FfnIdeal.τ Cert.FfnIdeal.sig) → Buf (Elt Ideal) ℓ) (c : Dev Cert.FfnIdeal.nD) :
    (Cert.FfnIdeal.Gen.dats m 0 c).arrAt 22 Cert.FfnIdeal.cfg0.N
      = hc (Cert.FfnIdeal.Block.args m c) (Cert.FfnIdeal.Block.token m c) :=
  Cert.FfnIdeal.Block.arr22 m c
theorem reference_hc (m : (ℓ : Loc Cert.FfnRefIdeal.nD Cert.FfnRefIdeal.τ Cert.FfnRefIdeal.sig) → Buf (Elt Ideal) ℓ)
    (c : Dev Cert.FfnRefIdeal.nD) :
    (Cert.FfnRefIdeal.Gen.dats m 0 c).arrAt 21 Cert.FfnRefIdeal.cfg0.N
      = hc (Cert.FfnRefIdeal.Whole.args m c) (Cert.FfnRefIdeal.Whole.token m c) :=
  Cert.FfnRefIdeal.Whole.arr21 m c
theorem kernel_hs (m : (ℓ : Loc Cert.FfnIdeal.nD Cert.FfnIdeal.τ Cert.FfnIdeal.sig) → Buf (Elt Ideal) ℓ) (c : Dev Cert.FfnIdeal.nD) :
    (Cert.FfnIdeal.Gen.dats m 0 c).arrAt 23 Cert.FfnIdeal.cfg0.N
      = hs (Cert.FfnIdeal.Block.args m c) (Cert.FfnIdeal.Block.token m c) :=
  Cert.FfnIdeal.Block.arr23 m c
theorem reference_hs (m : (ℓ : Loc Cert.FfnRefIdeal.nD Cert.FfnRefIdeal.τ Cert.FfnRefIdeal.sig) → Buf (Elt Ideal) ℓ)
    (c : Dev Cert.FfnRefIdeal.nD) :
    (Cert.FfnRefIdeal.Gen.dats m 0 c).arrAt 22 Cert.FfnRefIdeal.cfg0.N
      = hs (Cert.FfnRefIdeal.Whole.args m c) (Cert.FfnRefIdeal.Whole.token m c) :=
  Cert.FfnRefIdeal.Whole.arr22 m c
theorem kernel_fc (m : (ℓ : Loc Cert.FfnIdeal.nD Cert.FfnIdeal.τ Cert.FfnIdeal.sig) → Buf (Elt Ideal) ℓ) (c : Dev Cert.FfnIdeal.nD) :
    (Cert.FfnIdeal.Gen.dats m 0 c).arrAt 24 Cert.FfnIdeal.cfg0.N
      = fc (Cert.FfnIdeal.Block.args m c) (Cert.FfnIdeal.Block.token m c) :=
  Cert.FfnIdeal.Block.arr24 m c
theorem reference_fc (m : (ℓ : Loc Cert.FfnRefIdeal.nD Cert.FfnRefIdeal.τ Cert.FfnRefIdeal.sig) → Buf (Elt Ideal) ℓ)
    (c : Dev Cert.FfnRefIdeal.nD) :
    (Cert.FfnRefIdeal.Gen.dats m 0 c).arrAt 23 Cert.FfnRefIdeal.cfg0.N
      = fc (Cert.FfnRefIdeal.Whole.args m c) (Cert.FfnRefIdeal.Whole.token m c) :=
  Cert.FfnRefIdeal.Whole.arr23 m c
theorem kernel_fs (m : (ℓ : Loc Cert.FfnIdeal.nD Cert.FfnIdeal.τ Cert.FfnIdeal.sig) → Buf (Elt Ideal) ℓ) (c : Dev Cert.FfnIdeal.nD) :
    (Cert.FfnIdeal.Gen.dats m 0 c).arrAt 25 Cert.FfnIdeal.cfg0.N
      = fs (Cert.FfnIdeal.Block.args m c) (Cert.FfnIdeal.Block.token m c) :=
  Cert.FfnIdeal.Block.arr25 m c
theorem reference_fs (m : (ℓ : Loc Cert.FfnRefIdeal.nD Cert.FfnRefIdeal.τ Cert.FfnRefIdeal.sig) → Buf (Elt Ideal) ℓ)
    (c : Dev Cert.FfnRefIdeal.nD) :
    (Cert.FfnRefIdeal.Gen.dats m 0 c).arrAt 24 Cert.FfnRefIdeal.cfg0.N
      = fs (Cert.FfnRefIdeal.Whole.args m c) (Cert.FfnRefIdeal.Whole.token m c) :=
  Cert.FfnRefIdeal.Whole.arr24 m c

end Cert.Results
-- ==== Proof.lean ====
module

public import proofs.«01_k».proof.Defs
public import proofs.«01_k».proof.Proof.Ffn.Frame
public import proofs.«01_k».proof.Proof.FfnIdeal.Value
public import proofs.«01_k».proof.Proof.FfnRef.Run
public import proofs.«01_k».proof.Proof.Results
public import Idealize.ShloMosaic.Adequacy
public import Idealize.ShloMosaic.Init

@[expose] public section

set_option maxRecDepth 16384
set_option maxHeartbeats 4000000

noncomputable section

namespace Cert.Proof

open Idealize.ShloMosaic Idealize.SL.Sem Cert.Ffn

/-- The constant named `inv_127` is read as 1 / 127. -/
theorem preserves : Cert.preserves_Ffn_FfnIdeal :=
  IdealRules.named_const.statement Cert.FfnIdeal.κ "inv_127" .f32 0x3C010204#32 ((1 / 127 : ℝ) : EReal) rfl

/-- From equal arguments both programs run, and each of the seven results is the same function of the arguments: the row
    functions of Proof/Rows.lean, at the parameters and the token that the arguments hold. -/
theorem algebraic : Cert.algebraic_FfnIdeal_FfnRefIdeal (hFfnIdeal := Cert.FfnIdeal.Gen.facts)
    (hFfnRefIdeal := Cert.FfnRefIdeal.Gen.facts) := by
  intro m g m' g' _ hargs
  have ea : ∀ c, Cert.FfnRefIdeal.Whole.args m' c = Cert.FfnIdeal.Block.args m c := fun c => by
    obtain ⟨_, _, _, h3, h4, h5, h6, h7, h8, h9, h10, h11, h12, h13, h14, h15, h16, h17⟩ := hargs c
    exact Cert.FfnIdeal.Block.params_ext (funext fun k => congrFun h3 _) (funext fun k => congrFun h4 _)
      (funext fun k => funext fun l => congrFun h5 _) (funext fun k => congrFun h6 _) (funext fun k => congrFun h7 _)
      (funext fun k => congrFun h14 _) (funext fun k => congrFun h15 _) (funext fun k => funext fun n => congrFun h8 _)
      (funext fun n => congrFun h9 _) (funext fun n => congrFun h10 _) (funext fun k => funext fun l => congrFun h11 _)
      (funext fun k => congrFun h12 _) (funext fun k => congrFun h13 _) (funext fun k => congrFun h16 _)
      (funext fun k => congrFun h17 _)
  have et : ∀ c, Cert.FfnRefIdeal.Whole.token m' c = Cert.FfnIdeal.Block.token m c := fun c => funext fun n => by
    obtain ⟨h0, h1, h2, _⟩ := hargs c
    exact Cert.FfnIdeal.Block.token_ext (funext fun k => congrFun h0 _) (congrFun h1 _) (funext fun k => congrFun h2 _)
  clear hargs
  refine ⟨fun c => Results.oc (Cert.FfnIdeal.Block.args m c) (Cert.FfnIdeal.Block.token m c),
    fun c => Results.os (Cert.FfnIdeal.Block.args m c) (Cert.FfnIdeal.Block.token m c),
    fun c => Results.h2 (Cert.FfnIdeal.Block.args m c) (Cert.FfnIdeal.Block.token m c),
    fun c => Results.hc (Cert.FfnIdeal.Block.args m c) (Cert.FfnIdeal.Block.token m c),
    fun c => Results.hs (Cert.FfnIdeal.Block.args m c) (Cert.FfnIdeal.Block.token m c),
    fun c => Results.fc (Cert.FfnIdeal.Block.args m c) (Cert.FfnIdeal.Block.token m c),
    fun c => Results.fs (Cert.FfnIdeal.Block.args m c) (Cert.FfnIdeal.Block.token m c), ?_, ?_⟩
  · refine (θ_run (Cert.FfnIdeal.defs (F := Ideal)) _ _).mono (fun r h c => ?_)
      (Cert.FfnIdeal.Value.run_blocks (F := Ideal) m g)
    obtain ⟨r0, r1, r2, r3, r4, r5, r6, hkept⟩ := h c
    exact ⟨r0.trans (Results.kernel_oc m c), r1.trans (Results.kernel_os m c), r2.trans (Results.kernel_h2 m c), r3.trans (Results.kernel_hc m c), r4.trans (Results.kernel_hs m c), r5.trans (Results.kernel_fc m c), r6.trans (Results.kernel_fs m c), hkept⟩
  · refine (θ_run (Cert.FfnRefIdeal.defs (F := Ideal)) _ _).mono (fun r h c => ?_)
      (Cert.FfnRefIdeal.Value.run_blocks (F := Ideal) m' g')
    obtain ⟨r0, r1, r2, r3, r4, r5, r6, hkept⟩ := h c
    simp only [← ea, ← et]
    exact ⟨r0.trans (Results.reference_oc m' c), r1.trans (Results.reference_os m' c), r2.trans (Results.reference_h2 m' c), r3.trans (Results.reference_hc m' c), r4.trans (Results.reference_hs m' c), r5.trans (Results.reference_fc m' c), r6.trans (Results.reference_fs m' c), hkept⟩

theorem claim : Cert.Claim := ⟨Cert.Ffn.Gen.facts, Cert.FfnIdeal.Gen.facts, Cert.FfnRefIdeal.Gen.facts,
  fun m ρ _ => Cert.Ffn.Gen.frame m ρ, fun m ρ _ => Cert.FfnIdeal.Gen.frame m ρ, fun m ρ _ => Cert.FfnRefIdeal.Gen.frame m ρ,
  preserves, algebraic⟩

end Cert.Proof

end
